-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_symmetric [hPre_labels_symmetric : Cert.Pre_labels_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_labels_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_labels_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_KernelIdeal_labels_known [hPre_labels_known : Cert.Pre_labels_known.Facts] (m : (ℓ : Loc Cert.KernelIdeal.nD Cert.KernelIdeal.τ Cert.KernelIdeal.sig) → Buf (Elt Ideal) ℓ) : Prop :=
  ∀ c : Dev Cert.KernelIdeal.nD,
    (Cert.Pre_labels_known.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_row_of_ones [hPre_row_of_ones : Cert.Pre_row_of_ones.Facts] (m : (ℓ : Loc Cert.KernelIdeal.nD Cert.KernelIdeal.τ Cert.KernelIdeal.sig) → Buf (Elt Ideal) ℓ) : Prop :=
  ∀ c : Dev Cert.KernelIdeal.nD,
    (Cert.Pre_row_of_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_row_of_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_row_of_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_symmetric [hPre_labels_symmetric : Cert.Pre_labels_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_labels_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_ReferenceIdeal_row_of_ones [hPre_row_of_ones : Cert.Pre_row_of_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_of_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_row_of_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_row_of_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_TransposedIdeal (m : (ℓ : Loc Cert.TransposedIdeal.nD Cert.TransposedIdeal.τ Cert.TransposedIdeal.sig) → Buf (Elt Ideal) ℓ) : Prop :=
  True

def Pre_TransposedIdeal_labels_known [hPre_labels_known : Cert.Pre_labels_known.Facts] (m : (ℓ : Loc Cert.TransposedIdeal.nD Cert.TransposedIdeal.τ Cert.TransposedIdeal.sig) → Buf (Elt Ideal) ℓ) : Prop :=
  ∀ c : Dev Cert.TransposedIdeal.nD,
    (Cert.Pre_labels_known.fn (F := Ideal) (m ((c.tc : Thread Cert.TransposedIdeal.nD Cert.TransposedIdeal.τ).loc Cert.TransposedIdeal.main_arg0)) (m ((c.tc : Thread Cert.TransposedIdeal.nD Cert.TransposedIdeal.τ).loc Cert.TransposedIdeal.main_arg1)) (m ((c.tc : Thread Cert.TransposedIdeal.nD Cert.TransposedIdeal.τ).loc Cert.TransposedIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_symmetric [hKernelIdeal : Cert.KernelIdeal.Facts] [hPre_labels_symmetric : Cert.Pre_labels_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_known [hKernelIdeal : Cert.KernelIdeal.Facts] [hPre_labels_known : Cert.Pre_labels_known.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_known m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_row_of_ones [hKernelIdeal : Cert.KernelIdeal.Facts] [hPre_row_of_ones : Cert.Pre_row_of_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_of_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_symmetric [hReferenceIdeal : Cert.ReferenceIdeal.Facts] [hPre_labels_symmetric : Cert.Pre_labels_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_row_of_ones [hReferenceIdeal : Cert.ReferenceIdeal.Facts] [hPre_row_of_ones : Cert.Pre_row_of_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_of_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_TransposedIdeal [hTransposedIdeal : Cert.TransposedIdeal.Facts] : Prop :=
  ∀ (m : (ℓ : Loc Cert.TransposedIdeal.nD Cert.TransposedIdeal.τ Cert.TransposedIdeal.sig) → Buf (Elt Ideal) ℓ) (g : Dev Cert.TransposedIdeal.nD → PrngReg), Pre_TransposedIdeal m →
    θ_run (Cert.TransposedIdeal.defs (F := Ideal)) (onTc (τ := Cert.TransposedIdeal.τ) (Cert.TransposedIdeal.main (F := Ideal))) ⟨m, fun _ => 0, g⟩ (fun r => (∀ c : Dev Cert.TransposedIdeal.nD,
      r.2.mem ((c.tc : Thread Cert.TransposedIdeal.nD Cert.TransposedIdeal.τ).loc Cert.TransposedIdeal.main_arg0) = m ((c.tc : Thread Cert.TransposedIdeal.nD Cert.TransposedIdeal.τ).loc Cert.TransposedIdeal.main_arg0)
      ∧ r.2.mem ((c.tc : Thread Cert.TransposedIdeal.nD Cert.TransposedIdeal.τ).loc Cert.TransposedIdeal.main_arg1) = m ((c.tc : Thread Cert.TransposedIdeal.nD Cert.TransposedIdeal.τ).loc Cert.TransposedIdeal.main_arg1)
      ∧ r.2.mem ((c.tc : Thread Cert.TransposedIdeal.nD Cert.TransposedIdeal.τ).loc Cert.TransposedIdeal.main_arg2) = m ((c.tc : Thread Cert.TransposedIdeal.nD Cert.TransposedIdeal.τ).loc Cert.TransposedIdeal.main_arg2))
      ∧ r.2.sem = fun _ => 0)

def quiescent_TransposedIdeal_pre_labels_known [hTransposedIdeal : Cert.TransposedIdeal.Facts] [hPre_labels_known : Cert.Pre_labels_known.Facts] : Prop :=
  ∀ (m : (ℓ : Loc Cert.TransposedIdeal.nD Cert.TransposedIdeal.τ Cert.TransposedIdeal.sig) → Buf (Elt Ideal) ℓ) (g : Dev Cert.TransposedIdeal.nD → PrngReg), Pre_TransposedIdeal_labels_known m →
    θ_run (Cert.TransposedIdeal.defs (F := Ideal)) (onTc (τ := Cert.TransposedIdeal.τ) (Cert.TransposedIdeal.main (F := Ideal))) ⟨m, fun _ => 0, g⟩ (fun r => (∀ c : Dev Cert.TransposedIdeal.nD,
      r.2.mem ((c.tc : Thread Cert.TransposedIdeal.nD Cert.TransposedIdeal.τ).loc Cert.TransposedIdeal.main_arg0) = m ((c.tc : Thread Cert.TransposedIdeal.nD Cert.TransposedIdeal.τ).loc Cert.TransposedIdeal.main_arg0)
      ∧ r.2.mem ((c.tc : Thread Cert.TransposedIdeal.nD Cert.TransposedIdeal.τ).loc Cert.TransposedIdeal.main_arg1) = m ((c.tc : Thread Cert.TransposedIdeal.nD Cert.TransposedIdeal.τ).loc Cert.TransposedIdeal.main_arg1)
      ∧ r.2.mem ((c.tc : Thread Cert.TransposedIdeal.nD Cert.TransposedIdeal.τ).loc Cert.TransposedIdeal.main_arg2) = m ((c.tc : Thread Cert.TransposedIdeal.nD Cert.TransposedIdeal.τ).loc Cert.TransposedIdeal.main_arg2))
      ∧ r.2.sem = fun _ => 0)

def preserves_Kernel_KernelIdeal : Prop :=
  True

def algebraic_KernelIdeal_ReferenceIdeal_pre_labels_symmetric [hKernelIdeal : Cert.KernelIdeal.Facts] [hReferenceIdeal : Cert.ReferenceIdeal.Facts] [hPre_labels_symmetric : Cert.Pre_labels_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_TransposedIdeal_pre_labels_known [hKernelIdeal : Cert.KernelIdeal.Facts] [hTransposedIdeal : Cert.TransposedIdeal.Facts] [hPre_labels_known : Cert.Pre_labels_known.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TransposedIdeal.nD Cert.TransposedIdeal.τ Cert.TransposedIdeal.sig) → Buf (Elt Ideal) ℓ) (g' : Dev Cert.TransposedIdeal.nD → PrngReg), Pre_KernelIdeal_labels_known m →
    (∀ c : Dev Cert.KernelIdeal.nD,
      m' ((c.tc : Thread Cert.TransposedIdeal.nD Cert.TransposedIdeal.τ).loc Cert.TransposedIdeal.main_arg0) = m ((c.tc : Thread Cert.KernelIdeal.nD Cert.KernelIdeal.τ).loc Cert.KernelIdeal.main_arg0)
      ∧ m' ((c.tc : Thread Cert.TransposedIdeal.nD Cert.TransposedIdeal.τ).loc Cert.TransposedIdeal.main_arg1) = m ((c.tc : Thread Cert.KernelIdeal.nD Cert.KernelIdeal.τ).loc Cert.KernelIdeal.main_arg1)
      ∧ m' ((c.tc : Thread Cert.TransposedIdeal.nD Cert.TransposedIdeal.τ).loc Cert.TransposedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.TransposedIdeal.defs (F := Ideal)) (onTc (τ := Cert.TransposedIdeal.τ) (Cert.TransposedIdeal.main (F := Ideal))) ⟨m', fun _ => 0, g'⟩ (fun r => ∀ c : Dev Cert.TransposedIdeal.nD,
          r.2.mem ((c.tc : Thread Cert.TransposedIdeal.nD Cert.TransposedIdeal.τ).loc Cert.TransposedIdeal.main_v76) = v0 c
          ∧ r.2.mem ((c.tc : Thread Cert.TransposedIdeal.nD Cert.TransposedIdeal.τ).loc Cert.TransposedIdeal.main_arg0) = m' ((c.tc : Thread Cert.TransposedIdeal.nD Cert.TransposedIdeal.τ).loc Cert.TransposedIdeal.main_arg0)
          ∧ r.2.mem ((c.tc : Thread Cert.TransposedIdeal.nD Cert.TransposedIdeal.τ).loc Cert.TransposedIdeal.main_arg1) = m' ((c.tc : Thread Cert.TransposedIdeal.nD Cert.TransposedIdeal.τ).loc Cert.TransposedIdeal.main_arg1)
          ∧ r.2.mem ((c.tc : Thread Cert.TransposedIdeal.nD Cert.TransposedIdeal.τ).loc Cert.TransposedIdeal.main_arg2) = m' ((c.tc : Thread Cert.TransposedIdeal.nD Cert.TransposedIdeal.τ).loc Cert.TransposedIdeal.main_arg2))

def holds_KernelIdeal_small_loss_pre_row_of_ones [hKernelIdeal : Cert.KernelIdeal.Facts] [hPre_row_of_ones : Cert.Pre_row_of_ones.Facts] [hPost_small_loss : Cert.Post_small_loss.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_of_ones m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_small_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v2))) = (fun _ => 1#1))

def holds_ReferenceIdeal_large_loss_pre_row_of_ones [hReferenceIdeal : Cert.ReferenceIdeal.Facts] [hPre_row_of_ones : Cert.Pre_row_of_ones.Facts] [hPost_large_loss : Cert.Post_large_loss.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_of_ones m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ (Cert.Post_large_loss.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (r.2.mem ((c.tc : Thread Cert.ReferenceIdeal.nD Cert.ReferenceIdeal.τ).loc Cert.ReferenceIdeal.main_v75))) = (fun _ => 1#1))

def Claim : Prop :=
  ∃ (hKernel : Cert.Kernel.Facts) (hKernelIdeal : Cert.KernelIdeal.Facts) (hReferenceIdeal : Cert.ReferenceIdeal.Facts) (hTransposedIdeal : Cert.TransposedIdeal.Facts) (hPre_labels_symmetric : Cert.Pre_labels_symmetric.Facts) (hPre_labels_known : Cert.Pre_labels_known.Facts) (hPre_row_of_ones : Cert.Pre_row_of_ones.Facts) (hPost_small_loss : Cert.Post_small_loss.Facts) (hPost_large_loss : Cert.Post_large_loss.Facts),
    quiescent_Kernel (hKernel := hKernel)
    ∧ quiescent_KernelIdeal (hKernelIdeal := hKernelIdeal)
    ∧ quiescent_KernelIdeal_pre_labels_symmetric (hKernelIdeal := hKernelIdeal) (hPre_labels_symmetric := hPre_labels_symmetric)
    ∧ quiescent_KernelIdeal_pre_labels_known (hKernelIdeal := hKernelIdeal) (hPre_labels_known := hPre_labels_known)
    ∧ quiescent_KernelIdeal_pre_row_of_ones (hKernelIdeal := hKernelIdeal) (hPre_row_of_ones := hPre_row_of_ones)
    ∧ quiescent_ReferenceIdeal (hReferenceIdeal := hReferenceIdeal)
    ∧ quiescent_ReferenceIdeal_pre_labels_symmetric (hReferenceIdeal := hReferenceIdeal) (hPre_labels_symmetric := hPre_labels_symmetric)
    ∧ quiescent_ReferenceIdeal_pre_row_of_ones (hReferenceIdeal := hReferenceIdeal) (hPre_row_of_ones := hPre_row_of_ones)
    ∧ quiescent_TransposedIdeal (hTransposedIdeal := hTransposedIdeal)
    ∧ quiescent_TransposedIdeal_pre_labels_known (hTransposedIdeal := hTransposedIdeal) (hPre_labels_known := hPre_labels_known)
    ∧ preserves_Kernel_KernelIdeal
    ∧ algebraic_KernelIdeal_ReferenceIdeal_pre_labels_symmetric (hKernelIdeal := hKernelIdeal) (hReferenceIdeal := hReferenceIdeal) (hPre_labels_symmetric := hPre_labels_symmetric)
    ∧ algebraic_KernelIdeal_TransposedIdeal_pre_labels_known (hKernelIdeal := hKernelIdeal) (hTransposedIdeal := hTransposedIdeal) (hPre_labels_known := hPre_labels_known)
    ∧ holds_KernelIdeal_small_loss_pre_row_of_ones (hKernelIdeal := hKernelIdeal) (hPre_row_of_ones := hPre_row_of_ones) (hPost_small_loss := hPost_small_loss)
    ∧ holds_ReferenceIdeal_large_loss_pre_row_of_ones (hReferenceIdeal := hReferenceIdeal) (hPre_row_of_ones := hPre_row_of_ones) (hPost_large_loss := hPost_large_loss)
-- ==== Post_large_loss.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩

class Facts : Prop where

variable [Facts]

def fn {F : FTy → Type} [FloatOps F] (main_arg0 : FVec F S8x21x512x512 .f32) (main_arg1 : IVec S8x512x512 32) (main_arg2 : FVec F S8x252x252 .f32) (main_arg3 : FVec F S_ .f32) : IVec S_ 1 :=
  let main_cst : FVec F S_ .f32 := constant S_ .f32 0x3A800000#32
  let main_v0 : IVec S_ 1 := cmpf .ogt main_arg3 main_cst
  main_v0
-- ==== Post_small_loss.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩

class Facts : Prop where

variable [Facts]

def fn {F : FTy → Type} [FloatOps F] (main_arg0 : FVec F S8x21x512x512 .f32) (main_arg1 : IVec S8x512x512 32) (main_arg2 : FVec F S8x252x252 .f32) (main_arg3 : FVec F S_ .f32) : IVec S_ 1 :=
  let main_cst : FVec F S_ .f32 := constant S_ .f32 0x39800000#32
  let main_v0 : IVec S_ 1 := cmpf .olt main_arg3 main_cst
  main_v0
-- ==== Pre_labels_known.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩

class Facts : Prop where
  bcast_S_S8x512x512 : S_.BroadcastsInDim S8x512x512 (![] : Fin 0 → Fin S8x512x512.rank)

variable [Facts]

def fn {F : FTy → Type} [FloatOps F] (main_arg0 : FVec F S8x21x512x512 .f32) (main_arg1 : IVec S8x512x512 32) (main_arg2 : FVec F S8x252x252 .f32) : IVec S8x512x512 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  main_v1
-- ==== Pre_labels_symmetric.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩

class Facts : Prop where
  bcast_S_S8x512x512 : S_.BroadcastsInDim S8x512x512 (![] : Fin 0 → Fin S8x512x512.rank)
  transposes_S8x252x252_S8x252x252_0_2_1 : S8x252x252.Transposes [0, 2, 1] S8x252x252

variable [Facts]

def fn {F : FTy → Type} [FloatOps F] (main_arg0 : FVec F S8x21x512x512 .f32) (main_arg1 : IVec S8x512x512 32) (main_arg2 : FVec F S8x252x252 .f32) : IVec S8x512x512 1 × IVec S8x252x252 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_v2 : FVec F S8x252x252 .f32 := (transpose S8x252x252 [0, 2, 1] · transposes_S8x252x252_S8x252x252_0_2_1) main_arg2
  let main_v3 : IVec S8x252x252 1 := cmpf .oeq main_arg2 main_v2
  (main_v1, main_v3)
-- ==== Pre_row_of_ones.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩

class Facts : Prop where
  bcast_S_S8x252x252 : S_.BroadcastsInDim S8x252x252 (![] : Fin 0 → Fin S8x252x252.rank)
  bcast_S_S8x21x512x512 : S_.BroadcastsInDim S8x21x512x512 (![] : Fin 0 → Fin S8x21x512x512.rank)
  bcast_S_S8x512x512 : S_.BroadcastsInDim S8x512x512 (![] : Fin 0 → Fin S8x512x512.rank)

variable [Facts]

def fn_where {F : FTy → Type} [FloatOps F] (arg0 : IVec S8x252x252 1) (arg1 : FVec F S_ .f32) (arg2 : FVec F S_ .f32) : FVec F S8x252x252 .f32 :=
  let v0 : FVec F S8x252x252 .f32 := broadcastInDim S8x252x252 ![] bcast_S_S8x252x252 arg1
  let v1 : FVec F S8x252x252 .f32 := broadcastInDim S8x252x252 ![] bcast_S_S8x252x252 arg2
  let v2 : FVec F S8x252x252 .f32 := select arg0 v0 v1
  v2

def fn {F : FTy → Type} [FloatOps F] (main_arg0 : FVec F S8x21x512x512 .f32) (main_arg1 : IVec S8x512x512 32) (main_arg2 : FVec F S8x252x252 .f32) : IVec S8x21x512x512 1 × IVec S8x512x512 1 × IVec S8x252x252 1 :=
  let main_v0 : IVec S8x252x252 32 := iotaInDim S8x252x252 32 1
  let main_c : IVec S_ 32 := constantI S_ 32 0#32
  let main_v1 : IVec S8x252x252 32 := broadcastInDim S8x252x252 ![] bcast_S_S8x252x252 main_c
  let main_v2 : IVec S8x252x252 1 := cmpi .eq main_v0 main_v1
  let main_cst : FVec F S_ .f32 := constant S_ .f32 0x00000000#32
  let main_v3 : FVec F S8x21x512x512 .f32 := broadcastInDim S8x21x512x512 ![] bcast_S_S8x21x512x512 main_cst
  let main_v4 : IVec S8x21x512x512 1 := cmpf .oeq main_arg0 main_v3
  let main_c_0 : IVec S_ 32 := constantI S_ 32 0#32
  let main_v5 : IVec S8x512x512 32 := broadcastInDim S8x512x512 ![] bcast_S_S8x512x512 main_c_0
  let main_v6 : IVec S8x512x512 1 := cmpi .eq main_arg1 main_v5
  let main_cst_1 : FVec F S_ .f32 := constant S_ .f32 0x3F800000#32
  let main_cst_2 : FVec F S_ .f32 := constant S_ .f32 0x00000000#32
  let main_v7 : FVec F S8x252x252 .f32 := fn_where (F := F) main_v2 main_cst_1 main_cst_2
  let main_v8 : FVec F S8x252x252 .f32 := id main_v7
  let main_v9 : IVec S8x252x252 1 := cmpf .oeq main_arg2 main_v8
  (main_v4, main_v6, main_v9)
-- ==== Kernel.lean ====
abbrev S8x21x512x512 : Shape := ⟨4, ![8, 21, 512, 512]⟩
abbrev S8x512x512 : Shape := ⟨3, ![8, 512, 512]⟩
abbrev S8x252x252 : Shape := ⟨3, ![8, 252, 252]⟩
abbrev S8x22x256 : Shape := ⟨3, ![8, 22, 256]⟩
abbrev S1x21x128x512 : Shape := ⟨4, ![1, 21, 128, 512]⟩
abbrev S1x128x512 : Shape := ⟨3, ![1, 128, 512]⟩
abbrev S1x22x256 : Shape := ⟨3, ![1, 22, 256]⟩
abbrev S21x128x512 : Shape := ⟨3, ![21, 128, 512]⟩
abbrev S128x512 : Shape := ⟨2, ![128, 512]⟩
abbrev S22x128x512 : Shape := ⟨3, ![22, 128, 512]⟩
abbrev S22x65536 : Shape := ⟨2, ![22, 65536]⟩
abbrev S1x65536 : Shape := ⟨2, ![1, 65536]⟩
abbrev S256x65536 : Shape := ⟨2, ![256, 65536]⟩
abbrev S22x256 : Shape := ⟨2, ![22, 256]⟩
abbrev S1x1 : Shape := ⟨2, ![1, 1]⟩
abbrev S1x252x252 : Shape := ⟨3, ![1, 252, 252]⟩
abbrev S21x252 : Shape := ⟨2, ![21, 252]⟩
abbrev S1x252 : Shape := ⟨2, ![1, 252]⟩
abbrev S252 : Shape := ⟨1, ![252]⟩
abbrev S252x252 : Shape := ⟨2, ![252, 252]⟩
abbrev S252x1 : Shape := ⟨2, ![252, 1]⟩
abbrev S1x252x1 : Shape := ⟨3, ![1, 252, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 11
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x252x252, .f32⟩
  | .hbm, ⟨3, _⟩ => ⟨S8x22x256, .f32⟩
  | .hbm, ⟨4, _⟩ => ⟨S1x1, .f32⟩
  | .hbm, ⟨5, _⟩ => ⟨S_, .f32⟩
  | .local _ .vmem, ⟨0, _⟩ => ⟨S1x21x128x512, .f32⟩
  | .local _ .vmem, ⟨1, _⟩ => ⟨S1x21x128x512, .f32⟩
  | .local _ .vmem, ⟨2, _⟩ => ⟨S1x128x512, .i32⟩
  | .local _ .vmem, ⟨3, _⟩ => ⟨S1x128x512, .i32⟩
  | .local _ .vmem, ⟨4, _⟩ => ⟨S1x22x256, .f32⟩
  | .local _ .vmem, ⟨5, _⟩ => ⟨S1x22x256, .f32⟩
  | .local _ .vmem, ⟨6, _⟩ => ⟨S1x22x256, .f32⟩
  | .local _ .vmem, ⟨7, _⟩ => ⟨S1x22x256, .f32⟩
  | .local _ .vmem, ⟨8, _⟩ => ⟨S1x252x252, .f32⟩
  | .local _ .vmem, ⟨9, _⟩ => ⟨S1x252x252, .f32⟩
  | .local _ .vmem, ⟨10, _⟩ => ⟨S1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_9 : BitVec 32 := 0#32
  let v27 : BitVec 1 := Scalar.cmpi .ne v26 c0_i32_9
  v27

def k0_cond2 (i : grid0.Coords) : BitVec 1 :=
  let arg1 : BitVec 32 := BitVec.ofNat 32 (i 1).val
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .ne v29 c0_i32_11
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x22x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_16 : BitVec 32 := 0#32
  let v44 : BitVec 1 := Scalar.cmpi .ne v43 c0_i32_16
  v44

def k1_cond2 (i : grid1.Coords) : BitVec 1 :=
  let arg0 : BitVec 32 := BitVec.ofNat 32 (i 0).val
  let c0_i32_17 : BitVec 32 := 0#32
  let v45 : BitVec 1 := Scalar.cmpi .sgt arg0 c0_i32_17
  let v46 : BitVec 32 := Scalar.extui v45
  let c0_i32_18 : BitVec 32 := 0#32
  let v47 : BitVec 1 := Scalar.cmpi .ne v46 c0_i32_18
  v47

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x22x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x252x252 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩
abbrev S8x1x512x512 : Shape := ⟨4, ![8, 1, 512, 512]⟩
abbrev S8x262144 : Shape := ⟨2, ![8, 262144]⟩
abbrev S8x21x262144 : Shape := ⟨3, ![8, 21, 262144]⟩
abbrev S8 : Shape := ⟨1, ![8]⟩
abbrev S8x1 : Shape := ⟨2, ![8, 1]⟩
abbrev S8x256 : Shape := ⟨2, ![8, 256]⟩
abbrev S8x262144x1 : Shape := ⟨3, ![8, 262144, 1]⟩
abbrev S8x262144x2 : Shape := ⟨3, ![8, 262144, 2]⟩
abbrev S8x1x256 : Shape := ⟨3, ![8, 1, 256]⟩
abbrev S8x21x256 : Shape := ⟨3, ![8, 21, 256]⟩
abbrev S8x262144x21 : Shape := ⟨3, ![8, 262144, 21]⟩
abbrev S8x21x252 : Shape := ⟨3, ![8, 21, 252]⟩
abbrev S8x252 : Shape := ⟨2, ![8, 252]⟩
abbrev S8x1x252 : Shape := ⟨3, ![8, 1, 252]⟩

abbrev nBuf : Space → Nat
  | .hbm => 108
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x252x252, .f32⟩
  | .hbm, ⟨3, _⟩ => ⟨S_, .f32⟩
  | .hbm, ⟨4, _⟩ => ⟨S8x512x512, .f32⟩
  | .hbm, ⟨5, _⟩ => ⟨S_, .f32⟩
  | .hbm, ⟨6, _⟩ => ⟨S8x512x512, .f32⟩
  | .hbm, ⟨7, _⟩ => ⟨S8x512x512, .f32⟩
  | .hbm, ⟨8, _⟩ => ⟨S8x1x512x512, .f32⟩
  | .hbm, ⟨9, _⟩ => ⟨S8x21x512x512, .f32⟩
  | .hbm, ⟨10, _⟩ => ⟨S8x21x512x512, .f32⟩
  | .hbm, ⟨11, _⟩ => ⟨S8x21x512x512, .f32⟩
  | .hbm, ⟨12, _⟩ => ⟨S_, .f32⟩
  | .hbm, ⟨13, _⟩ => ⟨S8x512x512, .f32⟩
  | .hbm, ⟨14, _⟩ => ⟨S8x1x512x512, .f32⟩
  | .hbm, ⟨15, _⟩ => ⟨S8x21x512x512, .f32⟩
  | .hbm, ⟨16, _⟩ => ⟨S8x21x512x512, .f32⟩
  | .hbm, ⟨17, _⟩ => ⟨S8x262144, .i32⟩
  | .hbm, ⟨18, _⟩ => ⟨S8x21x262144, .f32⟩
  | .hbm, ⟨19, _⟩ => ⟨S8, .i32⟩
  | .hbm, ⟨20, _⟩ => ⟨S8x1, .i32⟩
  | .hbm, ⟨21, _⟩ => ⟨S_, .i32⟩
  | .hbm, ⟨22, _⟩ => ⟨S8x256, .i32⟩
  | .hbm, ⟨23, _⟩ => ⟨S_, .i32⟩
  | .hbm, ⟨24, _⟩ => ⟨S8x1, .i32⟩
  | .hbm, ⟨25, _⟩ => ⟨S8x1, .i1⟩
  | .hbm, ⟨26, _⟩ => ⟨S_, .i32⟩
  | .hbm, ⟨27, _⟩ => ⟨S8x1, .i32⟩
  | .hbm, ⟨28, _⟩ => ⟨S8x1, .i32⟩
  | .hbm, ⟨29, _⟩ => ⟨S8x1, .i32⟩
  | .hbm, ⟨30, _⟩ => ⟨S_, .i32⟩
  | .hbm, ⟨31, _⟩ => ⟨S8x262144, .i32⟩
  | .hbm, ⟨32, _⟩ => ⟨S8x262144, .i1⟩
  | .hbm, ⟨33, _⟩ => ⟨S_, .i32⟩
  | .hbm, ⟨34, _⟩ => ⟨S8x262144, .i32⟩
  | .hbm, ⟨35, _⟩ => ⟨S8x262144, .i32⟩
  | .hbm, ⟨36, _⟩ => ⟨S8x262144, .i32⟩
  | .hbm, ⟨37, _⟩ => ⟨S8x262144, .i32⟩
  | .hbm, ⟨38, _⟩ => ⟨S8x262144x1, .i32⟩
  | .hbm, ⟨39, _⟩ => ⟨S8x262144x1, .i32⟩
  | .hbm, ⟨40, _⟩ => ⟨S8x262144x2, .i32⟩
  | .hbm, ⟨41, _⟩ => ⟨S_, .i32⟩
  | .hbm, ⟨42, _⟩ => ⟨S8x262144, .i32⟩
  | .hbm, ⟨43, _⟩ => ⟨S8x256, .i32⟩
  | .hbm, ⟨44, _⟩ => ⟨S8x256, .f32⟩
  | .hbm, ⟨45, _⟩ => ⟨S8x1x256, .f32⟩
  | .hbm, ⟨46, _⟩ => ⟨S_, .f32⟩
  | .hbm, ⟨47, _⟩ => ⟨S8x21x256, .f32⟩
  | .hbm, ⟨48, _⟩ => ⟨S8x262144x21, .f32⟩
  | .hbm, ⟨49, _⟩ => ⟨S_, .i32⟩
  | .hbm, ⟨50, _⟩ => ⟨S8x1, .i32⟩
  | .hbm, ⟨51, _⟩ => ⟨S8x1, .i1⟩
  | .hbm, ⟨52, _⟩ => ⟨S_, .i32⟩
  | .hbm, ⟨53, _⟩ => ⟨S8x1, .i32⟩
  | .hbm, ⟨54, _⟩ => ⟨S8x1, .i32⟩
  | .hbm, ⟨55, _⟩ => ⟨S8x1, .i32⟩
  | .hbm, ⟨56, _⟩ => ⟨S_, .i32⟩
  | .hbm, ⟨57, _⟩ => ⟨S8x262144, .i32⟩
  | .hbm, ⟨58, _⟩ => ⟨S8x262144, .i1⟩
  | .hbm, ⟨59, _⟩ => ⟨S_, .i32⟩
  | .hbm, ⟨60, _⟩ => ⟨S8x262144, .i32⟩
  | .hbm, ⟨61, _⟩ => ⟨S8x262144, .i32⟩
  | .hbm, ⟨62, _⟩ => ⟨S8x262144, .i32⟩
  | .hbm, ⟨63, _⟩ => ⟨S8x262144, .i32⟩
  | .hbm, ⟨64, _⟩ => ⟨S8x262144x1, .i32⟩
  | .hbm, ⟨65, _⟩ => ⟨S8x262144x1, .i32⟩
  | .hbm, ⟨66, _⟩ => ⟨S8x262144x2, .i32⟩
  | .hbm, ⟨67, _⟩ => ⟨S8x21x256, .f32⟩
  | .hbm, ⟨68, _⟩ => ⟨S_, .f32⟩
  | .hbm, ⟨69, _⟩ => ⟨S8x1x256, .f32⟩
  | .hbm, ⟨70, _⟩ => ⟨S8x1x256, .i1⟩
  | .hbm, ⟨71, _⟩ => ⟨S_, .f32⟩
  | .hbm, ⟨72, _⟩ => ⟨S8x1x256, .f32⟩
  | .hbm, ⟨73, _⟩ => ⟨S8x1x256, .f32⟩
  | .hbm, ⟨74, _⟩ => ⟨S_, .f32⟩
  | .hbm, ⟨75, _⟩ => ⟨S8x1x256, .f32⟩
  | .hbm, ⟨76, _⟩ => ⟨S8x1x256, .i1⟩
  | .hbm, ⟨77, _⟩ => ⟨S8x21x256, .f32⟩
  | .hbm, ⟨78, _⟩ => ⟨S8x21x256, .f32⟩
  | .hbm, ⟨79, _⟩ => ⟨S_, .f32⟩
  | .hbm, ⟨80, _⟩ => ⟨S8x21x256, .f32⟩
  | .hbm, ⟨81, _⟩ => ⟨S8x21x256, .i1⟩
  | .hbm, ⟨82, _⟩ => ⟨S8x21x256, .f32⟩
  | .hbm, ⟨83, _⟩ => ⟨S8x21x252, .f32⟩
  | .hbm, ⟨84, _⟩ => ⟨S8x21x252, .f32⟩
  | .hbm, ⟨85, _⟩ => ⟨S_, .f32⟩
  | .hbm, ⟨86, _⟩ => ⟨S8x252, .f32⟩
  | .hbm, ⟨87, _⟩ => ⟨S8x1x252, .f32⟩
  | .hbm, ⟨88, _⟩ => ⟨S8x1x252, .f32⟩
  | .hbm, ⟨89, _⟩ => ⟨S_, .f32⟩
  | .hbm, ⟨90, _⟩ => ⟨S8x1x252, .f32⟩
  | .hbm, ⟨91, _⟩ => ⟨S8x1x252, .f32⟩
  | .hbm, ⟨92, _⟩ => ⟨S8x21x252, .f32⟩
  | .hbm, ⟨93, _⟩ => ⟨S8x21x252, .f32⟩
  | .hbm, ⟨94, _⟩ => ⟨S8x252x252, .f32⟩
  | .hbm, ⟨95, _⟩ => ⟨S8x252x252, .f32⟩
  | .hbm, ⟨96, _⟩ => ⟨S_, .f32⟩
  | .hbm, ⟨97, _⟩ => ⟨S8x252, .f32⟩
  | .hbm, ⟨98, _⟩ => ⟨S_, .f32⟩
  | .hbm, ⟨99, _⟩ => ⟨S8x252, .f32⟩
  | .hbm, ⟨100, _⟩ => ⟨S_, .f32⟩
  | .hbm, ⟨101, _⟩ => ⟨S8x252, .f32⟩
  | .hbm, ⟨102, _⟩ => ⟨S8x252, .f32⟩
  | .hbm, ⟨103, _⟩ => ⟨S8x252, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_c_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_call1_v0 : Ref sig .tc := ⟨.hbm, 81, rfl⟩
abbrev main_v60 : Ref sig .tc := ⟨.hbm, 82, rfl⟩
abbrev main_v61 : Ref sig .tc := ⟨.hbm, 83, rfl⟩
abbrev main_call2_v0 : Ref sig .tc := ⟨.hbm, 84, rfl⟩
abbrev main_call2_cst : Ref sig .tc := ⟨.hbm, 85, rfl⟩
abbrev main_call2_v1 : Ref sig .tc := ⟨.hbm, 86, rfl⟩
abbrev main_call2_v2 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_cst_19 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== TransposedIdeal.lean ====
abbrev S8x21x512x512 : Shape := ⟨4, ![8, 21, 512, 512]⟩
abbrev S8x512x512 : Shape := ⟨3, ![8, 512, 512]⟩
abbrev S8x252x252 : Shape := ⟨3, ![8, 252, 252]⟩
abbrev S_ : Shape := ⟨0, ![]⟩
abbrev S8x1x512x512 : Shape := ⟨4, ![8, 1, 512, 512]⟩
abbrev S8x262144 : Shape := ⟨2, ![8, 262144]⟩
abbrev S8x21x262144 : Shape := ⟨3, ![8, 21, 262144]⟩
abbrev S8 : Shape := ⟨1, ![8]⟩
abbrev S8x1 : Shape := ⟨2, ![8, 1]⟩
abbrev S8x256 : Shape := ⟨2, ![8, 256]⟩
abbrev S8x262144x1 : Shape := ⟨3, ![8, 262144, 1]⟩
abbrev S8x262144x2 : Shape := ⟨3, ![8, 262144, 2]⟩
abbrev S8x1x256 : Shape := ⟨3, ![8, 1, 256]⟩
abbrev S8x21x256 : Shape := ⟨3, ![8, 21, 256]⟩
abbrev S8x262144x21 : Shape := ⟨3, ![8, 262144, 21]⟩
abbrev S8x21x252 : Shape := ⟨3, ![8, 21, 252]⟩
abbrev S8x252 : Shape := ⟨2, ![8, 252]⟩
abbrev S8x1x252 : Shape := ⟨3, ![8, 1, 252]⟩

abbrev nBuf : Space → Nat
  | .hbm => 109
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x252x252, .f32⟩
  | .hbm, ⟨3, _⟩ => ⟨S8x252x252, .f32⟩
  | .hbm, ⟨4, _⟩ => ⟨S_, .f32⟩
  | .hbm, ⟨5, _⟩ => ⟨S8x512x512, .f32⟩
  | .hbm, ⟨6, _⟩ => ⟨S_, .f32⟩
  | .hbm, ⟨7, _⟩ => ⟨S8x512x512, .f32⟩
  | .hbm, ⟨8, _⟩ => ⟨S8x512x512, .f32⟩
  | .hbm, ⟨9, _⟩ => ⟨S8x1x512x512, .f32⟩
  | .hbm, ⟨10, _⟩ => ⟨S8x21x512x512, .f32⟩
  | .hbm, ⟨11, _⟩ => ⟨S8x21x512x512, .f32⟩
  | .hbm, ⟨12, _⟩ => ⟨S8x21x512x512, .f32⟩
  | .hbm, ⟨13, _⟩ => ⟨S_, .f32⟩
  | .hbm, ⟨14, _⟩ => ⟨S8x512x512, .f32⟩
  | .hbm, ⟨15, _⟩ => ⟨S8x1x512x512, .f32⟩
  | .hbm, ⟨16, _⟩ => ⟨S8x21x512x512, .f32⟩
  | .hbm, ⟨17, _⟩ => ⟨S8x21x512x512, .f32⟩
  | .hbm, ⟨18, _⟩ => ⟨S8x262144, .i32⟩
  | .hbm, ⟨19, _⟩ => ⟨S8x21x262144, .f32⟩
  | .hbm, ⟨20, _⟩ => ⟨S8, .i32⟩
  | .hbm, ⟨21, _⟩ => ⟨S8x1, .i32⟩
  | .hbm, ⟨22, _⟩ => ⟨S_, .i32⟩
  | .hbm, ⟨23, _⟩ => ⟨S8x256, .i32⟩
  | .hbm, ⟨24, _⟩ => ⟨S_, .i32⟩
  | .hbm, ⟨25, _⟩ => ⟨S8x1, .i32⟩
  | .hbm, ⟨26, _⟩ => ⟨S8x1, .i1⟩
  | .hbm, ⟨27, _⟩ => ⟨S_, .i32⟩
  | .hbm, ⟨28, _⟩ => ⟨S8x1, .i32⟩
  | .hbm, ⟨29, _⟩ => ⟨S8x1, .i32⟩
  | .hbm, ⟨30, _⟩ => ⟨S8x1, .i32⟩
  | .hbm, ⟨31, _⟩ => ⟨S_, .i32⟩
  | .hbm, ⟨32, _⟩ => ⟨S8x262144, .i32⟩
  | .hbm, ⟨33, _⟩ => ⟨S8x262144, .i1⟩
  | .hbm, ⟨34, _⟩ => ⟨S_, .i32⟩
  | .hbm, ⟨35, _⟩ => ⟨S8x262144, .i32⟩
  | .hbm, ⟨36, _⟩ => ⟨S8x262144, .i32⟩
  | .hbm, ⟨37, _⟩ => ⟨S8x262144, .i32⟩
  | .hbm, ⟨38, _⟩ => ⟨S8x262144, .i32⟩
  | .hbm, ⟨39, _⟩ => ⟨S8x262144x1, .i32⟩
  | .hbm, ⟨40, _⟩ => ⟨S8x262144x1, .i32⟩
  | .hbm, ⟨41, _⟩ => ⟨S8x262144x2, .i32⟩
  | .hbm, ⟨42, _⟩ => ⟨S_, .i32⟩
  | .hbm, ⟨43, _⟩ => ⟨S8x262144, .i32⟩
  | .hbm, ⟨44, _⟩ => ⟨S8x256, .i32⟩
  | .hbm, ⟨45, _⟩ => ⟨S8x256, .f32⟩
  | .hbm, ⟨46, _⟩ => ⟨S8x1x256, .f32⟩
  | .hbm, ⟨47, _⟩ => ⟨S_, .f32⟩
  | .hbm, ⟨48, _⟩ => ⟨S8x21x256, .f32⟩
  | .hbm, ⟨49, _⟩ => ⟨S8x262144x21, .f32⟩
  | .hbm, ⟨50, _⟩ => ⟨S_, .i32⟩
  | .hbm, ⟨51, _⟩ => ⟨S8x1, .i32⟩
  | .hbm, ⟨52, _⟩ => ⟨S8x1, .i1⟩
  | .hbm, ⟨53, _⟩ => ⟨S_, .i32⟩
  | .hbm, ⟨54, _⟩ => ⟨S8x1, .i32⟩
  | .hbm, ⟨55, _⟩ => ⟨S8x1, .i32⟩
  | .hbm, ⟨56, _⟩ => ⟨S8x1, .i32⟩
  | .hbm, ⟨57, _⟩ => ⟨S_, .i32⟩
  | .hbm, ⟨58, _⟩ => ⟨S8x262144, .i32⟩
  | .hbm, ⟨59, _⟩ => ⟨S8x262144, .i1⟩
  | .hbm, ⟨60, _⟩ => ⟨S_, .i32⟩
  | .hbm, ⟨61, _⟩ => ⟨S8x262144, .i32⟩
  | .hbm, ⟨62, _⟩ => ⟨S8x262144, .i32⟩
  | .hbm, ⟨63, _⟩ => ⟨S8x262144, .i32⟩
  | .hbm, ⟨64, _⟩ => ⟨S8x262144, .i32⟩
  | .hbm, ⟨65, _⟩ => ⟨S8x262144x1, .i32⟩
  | .hbm, ⟨66, _⟩ => ⟨S8x262144x1, .i32⟩
  | .hbm, ⟨67, _⟩ => ⟨S8x262144x2, .i32⟩
  | .hbm, ⟨68, _⟩ => ⟨S8x21x256, .f32⟩
  | .hbm, ⟨69, _⟩ => ⟨S_, .f32⟩
  | .hbm, ⟨70, _⟩ => ⟨S8x1x256, .f32⟩
  | .hbm, ⟨71, _⟩ => ⟨S8x1x256, .i1⟩
  | .hbm, ⟨72, _⟩ => ⟨S_, .f32⟩
  | .hbm, ⟨73, _⟩ => ⟨S8x1x256, .f32⟩
  | .hbm, ⟨74, _⟩ => ⟨S8x1x256, .f32⟩
  | .hbm, ⟨75, _⟩ => ⟨S_, .f32⟩
  | .hbm, ⟨76, _⟩ => ⟨S8x1x256, .f32⟩
  | .hbm, ⟨77, _⟩ => ⟨S8x1x256, .i1⟩
  | .hbm, ⟨78, _⟩ => ⟨S8x21x256, .f32⟩
  | .hbm, ⟨79, _⟩ => ⟨S8x21x256, .f32⟩
  | .hbm, ⟨80, _⟩ => ⟨S_, .f32⟩
  | .hbm, ⟨81, _⟩ => ⟨S8x21x256, .f32⟩
  | .hbm, ⟨82, _⟩ => ⟨S8x21x256, .i1⟩
  | .hbm, ⟨83, _⟩ => ⟨S8x21x256, .f32⟩
  | .hbm, ⟨84, _⟩ => ⟨S8x21x252, .f32⟩
  | .hbm, ⟨85, _⟩ => ⟨S8x21x252, .f32⟩
  | .hbm, ⟨86, _⟩ => ⟨S_, .f32⟩
  | .hbm, ⟨87, _⟩ => ⟨S8x252, .f32⟩
  | .hbm, ⟨88, _⟩ => ⟨S8x1x252, .f32⟩
  | .hbm, ⟨89, _⟩ => ⟨S8x1x252, .f32⟩
  | .hbm, ⟨90, _⟩ => ⟨S_, .f32⟩
  | .hbm, ⟨91, _⟩ => ⟨S8x1x252, .f32⟩
  | .hbm, ⟨92, _⟩ => ⟨S8x1x252, .f32⟩
  | .hbm, ⟨93, _⟩ => ⟨S8x21x252, .f32⟩
  | .hbm, ⟨94, _⟩ => ⟨S8x21x252, .f32⟩
  | .hbm, ⟨95, _⟩ => ⟨S8x252x252, .f32⟩
  | .hbm, ⟨96, _⟩ => ⟨S8x252x252, .f32⟩
  | .hbm, ⟨97, _⟩ => ⟨S_, .f32⟩
  | .hbm, ⟨98, _⟩ => ⟨S8x252, .f32⟩
  | .hbm, ⟨99, _⟩ => ⟨S_, .f32⟩
  | .hbm, ⟨100, _⟩ => ⟨S8x252, .f32⟩
  | .hbm, ⟨101, _⟩ => ⟨S_, .f32⟩
  | .hbm, ⟨102, _⟩ => ⟨S8x252, .f32⟩
  | .hbm, ⟨103, _⟩ => ⟨S8x252, .f32⟩
  | .hbm, ⟨104, _⟩ => ⟨S8x252, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_call1_v0 : Ref sig .tc := ⟨.hbm, 82, rfl⟩
abbrev main_v61 : Ref sig .tc := ⟨.hbm, 83, rfl⟩
abbrev main_v62 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_20 : Ref sig .tc := ⟨.hbm, 105, rfl⟩
abbrev main_v75 : Ref sig .tc := ⟨.hbm, 106, rfl⟩
abbrev main_cst_21 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Proof.Ideal.Stats.lean ====
/- The first call (per-batch statistics): its two branches, what they leave in the accumulator, and the proof data of its
   pipeline, at any contents `V` of the buffers when it starts. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit.Basic
public import Idealize.ShloMosaic.Lib.Ring
public import Idealize.ShloMosaic.Lib.Tactic
public import Idealize.ShloMosaic.Lib.WordCmp

@[expose] public section

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branches, in closed form over the grid -/

/-- The first branch runs at the points ≡ 0 (mod 4): the accumulator is set. -/
theorem isFirst0 : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)
/-- The second branch runs at the others: the accumulator is added to. -/
theorem isNext0 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- The output window is idle at no point: one of the branches stores into it. -/
theorem live0 : ∀ t : Fin cfg0.N, cfg0.idle 2 (grid0.coords t) = false := by decide +kernel
/-- Where the accumulator's buffer holds nothing of this run yet, position by position, as a bit mask. -/
def freshTab0 : ℕ → Bool
  | 0 => true
  | n + 1 => (0x88888888 : ℕ).testBit n
theorem freshTab0_step : ∀ t : Fin cfg0.N,
    freshTab0 (t.val + 1) = ((cfg0.win 2).flush t || (cfg0.idle 2 (cfg0.grid.coords t) && freshTab0 t.val)) := by decide +kernel
theorem fresh0_eq (t : Fin cfg0.N) : cfg0.fresh 2 t.val = freshTab0 t.val :=
  Pipeline.Cfg.fresh_tab cfg0 2 freshTab0 rfl freshTab0_step t.val (Nat.le_of_lt t.isLt)
/-- At a point that adds to the accumulator, its buffer holds what an earlier point stored. -/
theorem notFresh0 : ∀ t : Fin cfg0.N, ¬ t.val % 4 = 0 → cfg0.fresh 2 t.val = false := by
  intro t; rw [fresh0_eq t]; revert t; decide +kernel

/-! ## The body's triple, in each branch -/

/-- The rectangle every store of the body goes through: the whole block. -/
abbrev rout0 : Rect S1x22x256 := Rect.unit (s := S1x22x256) ![0, 0, 0] S1x22x256.size inb_S1x22x256_S1x22x256_0_0_0
/-- The rectangles its loads go through: the whole input blocks. -/
abbrev rl0 : Rect S1x21x128x512 := Rect.unit (s := S1x21x128x512) ![0, 0, 0, 0] S1x21x128x512.size inb_S1x21x128x512_S1x21x128x512_0_0_0_0
abbrev rm0 : Rect S1x128x512 := Rect.unit (s := S1x128x512) ![0, 0, 0] S1x128x512.size inb_S1x128x512_S1x128x512_0_0_0
theorem covers0 (p : Vec F S1x22x256 .f32) (y : S1x22x256.Idx) :
    ∃ pc ∈ ([⟨rout0, p⟩] : List (View.Piece (Elt F) S1x22x256 .f32)), y ∈ pc.1.set :=
  View.cover_of_tiled [⟨rout0, p⟩] S1x22x256.size (by rfl) y

set_option maxHeartbeats 1000000 in
/-- At a point that sets the accumulator, from the inputs' blocks `x0`, `x1` and an output buffer with anything in it. -/
theorem body0_first (c : Dev nD) (E : Set ℕ) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x22x256 .f32) (harg4 : arg4.IsWhole)
    (hc0 : k0_cond1 i = 1#1) (hc1 : ¬ k0_cond2 i = 1#1)
    (x0 : Vec F S1x21x128x512 .f32) (x1 : Vec F S1x128x512 .i32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 x0 x1)) -∗ K ⟨⟩))
      ⊢ wp frame (wpE (defs₀ (F := F)) Variants.none c none) E (cc0__seg_stats_kernel i arg2 harg2 arg3 harg3 arg4 harg4) K := by
  simp only [cc0__seg_stats_kernel_eq_skeleton]; unfold cc0__seg_stats_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (View.read_writes_eq_canon _ _ _ (covers0 _)).trans ((View.canon_cons_unit_lit _ _ _ (by decide)).trans ?_)
  show (fun x0 x1 => k0_pay2 x0 x1) (View.ld (View.read (Elt F) arg2.view (harg2.unread x0)) rl0)
    (View.ld (View.read (Elt F) arg3.view (harg3.unread x1)) rm0) = _
  rw [hf0, hf1, View.ld_unit_lit _ _ (by decide), View.ld_unit_lit _ _ (by decide)]

set_option maxHeartbeats 1000000 in
/-- At a point that adds to the accumulator, from the inputs' blocks `x0`, `x1` and the output buffer at `y`. -/
theorem body0_next (c : Dev nD) (E : Set ℕ) (i : grid0.Coords) (arg2 : Memref sig .tc .vmem S1x21x128x512 .f32) (harg2 : arg2.IsWhole) (arg3 : Memref sig .tc .vmem S1x128x512 .i32) (harg3 : arg3.IsWhole) (arg4 : Memref sig .tc .vmem S1x22x256 .f32) (harg4 : arg4.IsWhole)
    (hc0 : ¬ k0_cond1 i = 1#1) (hc1 : k0_cond2 i = 1#1)
    (x0 : Vec F S1x21x128x512 .f32) (x1 : Vec F S1x128x512 .i32) (y : Vec F S1x22x256 .f32) (K : PUnit → sProp 𝕄) :
    iprop(owns (c : Thread nD τ) arg2 fullShare x0 ∗ owns (c : Thread nD τ) arg3 fullShare x1 ∗ owns (c : Thread nD τ) arg4 fullShare y
        ∗ (iprop(owns (c : Thread nD τ) arg2 fullShare x0 ∗ owns (c : Thread nD τ) arg3 fullShare x1
            ∗ owns (c : Thread nD τ) arg4 fullShare (k0_pay3 x0 x1 y)) -∗ K ⟨⟩))
      ⊢ wp frame (wpE (defs₀ (F := F)) Variants.none c none) E (cc0__seg_stats_kernel i arg2 harg2 arg3 harg3 arg4 harg4) K := by
  simp only [cc0__seg_stats_kernel_eq_skeleton]; unfold cc0__seg_stats_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (View.read_writes_eq_canon _ _ _ (covers0 _)).trans ((View.canon_cons_unit_lit _ _ _ (by decide)).trans ?_)
  show (fun x0 x1 y => k0_pay3 x0 x1 y) (View.ld (View.read (Elt F) arg2.view (harg2.unread x0)) rl0)
    (View.ld (View.read (Elt F) arg3.view (harg3.unread x1)) rm0) (View.ld (View.read (Elt F) arg4.view (harg4.unread y)) rout0) = _
  rw [hf0, hf1, hf2, View.ld_unit_lit _ _ (by decide), View.ld_unit_lit _ _ (by decide), View.ld_unit_lit _ _ (by decide)]

/-! ## The accumulation -/

/-- What one point makes of the accumulator `y`. -/
def step0 (first : Bool) (x0 : Vec F S1x21x128x512 .f32) (x1 : Vec F S1x128x512 .i32) (y : Vec F S1x22x256 .f32) : Vec F S1x22x256 .f32 :=
  if first then k0_pay2 x0 x1 else k0_pay3 x0 x1 y

/-- The output's buffer after the body at point `n`: the 22×256 statistics of one batch (21 class sums and a row of counts), accumulated over the four row blocks of the batch. -/
def acc0 (c : Dev nD) : (n : ℕ) → n < cfg0.N → Vec F S1x22x256 .f32
  | 0, hn => step0 true (iblk0 V c 0 ⟨0, hn⟩) (iblk0 V c 1 ⟨0, hn⟩) (fun _ => Scalar.ofBits .f32 0x00000000#32)
  | n + 1, hn => step0 (decide ((n + 1) % 4 = 0)) (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = (fun x0 x1 => k0_pay2 x0 x1) (iblk0 V c 0 t) (iblk0 V c 1 t) := by
  obtain ⟨n, hn⟩ := t
  cases n with
  | zero => rfl
  | succ n =>
    unfold acc0 step0
    exact if_pos (decide_eq_true h)

theorem acc0_next (c : Dev nD) (t : Fin cfg0.N) (h : ¬ t.val % 4 = 0) :
    acc0 V c t.val t.isLt = (fun x0 x1 y => k0_pay3 x0 x1 y) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n =>
    rw [acc0]
    unfold step0
    exact if_neg (by simpa using h)

/-! ## The pipeline's proof data -/

/-- The arrays as the region finds them; after the body at point `t` each input's buffer at its block and the output's at
    `acc0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a point that adds to the accumulator, the output's buffer holds what the point before left. -/
theorem before0_2 (c : Dev nD) (t : Fin cfg0.N) (h : ¬ t.val % 4 = 0) (d) :
    (dat0 V c).before 2 t d = acc0 V c (t.val - 1) (Nat.lt_of_le_of_lt (Nat.sub_le _ _) t.isLt) := by
  rw [Dat.before_out_traj _ 2 rfl (fun _ _ => rfl)
      (fun s _ hi _ => absurd ((live0 s).symm.trans hi) Bool.false_ne_true) t.val t rfl d,
    if_neg (by rw [notFresh0 t h]; exact Bool.false_ne_true)]
  dsimp only [dat0]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 800000 in
/-- The body at any point: its inputs' blocks are in place and the branch taken is known. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from by
      unfold Dat.leavesExact; rw [live0 t], after0_2]
  by_cases h : t.val % 4 = 0
  · rw [acc0_first V c t h]
    iintro ⟨HΦ, Ho, ⟨%d0, H0⟩, ⟨%d1, H1⟩, ⟨%d2, H2⟩⟩
    iapply (body0_first c Set.univ (grid0.coords t) _ _ _ _ _ _ ((isFirst0 t).mpr h) (fun h' => (isNext0 t).mp h' h) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_next V c t h]
    simp only [before0_2 V c t h]
    iintro ⟨HΦ, Ho, ⟨%d0, H0⟩, ⟨%d1, H1⟩, ⟨%d2, H2⟩⟩
    iapply (body0_next c Set.univ (grid0.coords t) _ _ _ _ _ _ (fun h' => h ((isFirst0 t).mp h')) ((isNext0 t).mpr h) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Acc

end
-- ==== Proof.Ideal.Tail.lean ====
/- The second call (the loss from the statistics): its two branches, what they leave in the accumulator, and the proof data
   of its pipeline, at any contents `V` of the buffers when it starts. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit.Basic
public import Idealize.ShloMosaic.Lib.Ring
public import Idealize.ShloMosaic.Lib.Tactic
public import Idealize.ShloMosaic.Lib.WordCmp

@[expose] public section

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, in closed form over the grid -/

/-- The first branch runs at the points ≡ 0 (mod 8): the accumulator is set. -/
theorem isFirst1 : ∀ t : Fin cfg1.N, k1_cond1 (grid1.coords t) = 1#1 ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [k1_cond1, e0]
    word_cmp
   : ∀ t : Fin grid1.N, k1_cond1 (grid1.coords t) = 1#1 ↔ t.val % 8 = 0)
/-- The second branch runs at the others: the accumulator is added to. -/
theorem isNext1 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)

/-- The output window is idle at no point: one of the branches stores into it. -/
theorem live1 : ∀ t : Fin cfg1.N, cfg1.idle 2 (grid1.coords t) = false := by decide +kernel
/-- Where the accumulator's buffer holds nothing of this run yet, position by position, as a bit mask. -/
def freshTab1 : ℕ → Bool
  | 0 => true
  | n + 1 => (0x80 : ℕ).testBit n
theorem freshTab1_step : ∀ t : Fin cfg1.N,
    freshTab1 (t.val + 1) = ((cfg1.win 2).flush t || (cfg1.idle 2 (cfg1.grid.coords t) && freshTab1 t.val)) := by decide +kernel
theorem fresh1_eq (t : Fin cfg1.N) : cfg1.fresh 2 t.val = freshTab1 t.val :=
  Pipeline.Cfg.fresh_tab cfg1 2 freshTab1 rfl freshTab1_step t.val (Nat.le_of_lt t.isLt)
/-- At a point that adds to the accumulator, its buffer holds what an earlier point stored. -/
theorem notFresh1 : ∀ t : Fin cfg1.N, ¬ t.val % 8 = 0 → cfg1.fresh 2 t.val = false := by
  intro t; rw [fresh1_eq t]; revert t; decide +kernel

/-! ## The body's triple, in each branch -/

/-- The rectangle every store of the body goes through: the whole block. -/
abbrev rout1 : Rect S1x1 := Rect.unit (s := S1x1) ![0, 0] S1x1.size inb_S1x1_S1x1_0_0
/-- The rectangles its loads go through: the whole input blocks. -/
abbrev rl1 : Rect S1x22x256 := Rect.unit (s := S1x22x256) ![0, 0, 0] S1x22x256.size inb_S1x22x256_S1x22x256_0_0_0
abbrev rm1 : Rect S1x252x252 := Rect.unit (s := S1x252x252) ![0, 0, 0] S1x252x252.size inb_S1x252x252_S1x252x252_0_0_0
theorem covers1 (p : Vec F S1x1 .f32) (y : S1x1.Idx) :
    ∃ pc ∈ ([⟨rout1, p⟩] : List (View.Piece (Elt F) S1x1 .f32)), y ∈ pc.1.set :=
  View.cover_of_tiled [⟨rout1, p⟩] S1x1.size (by rfl) y

set_option maxHeartbeats 1000000 in
/-- At a point that sets the accumulator, from the inputs' blocks `x0`, `x1` and an output buffer with anything in it. -/
theorem body1_first (c : Dev nD) (E : Set ℕ) (i : grid1.Coords) (arg1 : Memref sig .tc .vmem S1x22x256 .f32) (harg1 : arg1.IsWhole) (arg2 : Memref sig .tc .vmem S1x252x252 .f32) (harg2 : arg2.IsWhole) (arg3 : Memref sig .tc .vmem S1x1 .f32) (harg3 : arg3.IsWhole)
    (hc0 : k1_cond1 i = 1#1) (hc1 : ¬ k1_cond2 i = 1#1)
    (x0 : Vec F S1x22x256 .f32) (x1 : Vec F S1x252x252 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 (k1_pay3 x0 x1) k1_pay4)) -∗ K ⟨⟩))
      ⊢ wp frame (wpE (defs₀ (F := F)) Variants.none c none) E (cc1__tail_kernel i arg1 harg1 arg2 harg2 arg3 harg3) K := by
  simp only [cc1__tail_kernel_eq_skeleton]; unfold cc1__tail_kernel_skel
  simp only [k1_part1_eq_skeleton]
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_eq_canon _ _ _ (covers1 _)).trans ((View.canon_cons_unit_lit _ _ _ (by decide)).trans ?_)
  show (fun x0 x1 => k1_pay1 (k1_pay3 x0 x1) k1_pay4) (View.ld (View.read (Elt F) arg1.view (harg1.unread x0)) rl1)
    (View.ld (View.read (Elt F) arg2.view (harg2.unread x1)) rm1) = _
  rw [hf0, hf1, View.ld_unit_lit _ _ (by decide), View.ld_unit_lit _ _ (by decide)]

set_option maxHeartbeats 1000000 in
/-- At a point that adds to the accumulator, from the inputs' blocks `x0`, `x1` and the output buffer at `y`. -/
theorem body1_next (c : Dev nD) (E : Set ℕ) (i : grid1.Coords) (arg1 : Memref sig .tc .vmem S1x22x256 .f32) (harg1 : arg1.IsWhole) (arg2 : Memref sig .tc .vmem S1x252x252 .f32) (harg2 : arg2.IsWhole) (arg3 : Memref sig .tc .vmem S1x1 .f32) (harg3 : arg3.IsWhole)
    (hc0 : ¬ k1_cond1 i = 1#1) (hc1 : k1_cond2 i = 1#1)
    (x0 : Vec F S1x22x256 .f32) (x1 : Vec F S1x252x252 .f32) (y : Vec F S1x1 .f32) (K : PUnit → sProp 𝕄) :
    iprop(owns (c : Thread nD τ) arg1 fullShare x0 ∗ owns (c : Thread nD τ) arg2 fullShare x1 ∗ owns (c : Thread nD τ) arg3 fullShare y
        ∗ (iprop(owns (c : Thread nD τ) arg1 fullShare x0 ∗ owns (c : Thread nD τ) arg2 fullShare x1
            ∗ owns (c : Thread nD τ) arg3 fullShare (k1_pay2 (k1_pay3 x0 x1) k1_pay4 y)) -∗ K ⟨⟩))
      ⊢ wp frame (wpE (defs₀ (F := F)) Variants.none c none) E (cc1__tail_kernel i arg1 harg1 arg2 harg2 arg3 harg3) K := by
  simp only [cc1__tail_kernel_eq_skeleton]; unfold cc1__tail_kernel_skel
  simp only [k1_part1_eq_skeleton]
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_eq_canon _ _ _ (covers1 _)).trans ((View.canon_cons_unit_lit _ _ _ (by decide)).trans ?_)
  show (fun x0 x1 y => k1_pay2 (k1_pay3 x0 x1) k1_pay4 y) (View.ld (View.read (Elt F) arg1.view (harg1.unread x0)) rl1)
    (View.ld (View.read (Elt F) arg2.view (harg2.unread x1)) rm1) (View.ld (View.read (Elt F) arg3.view (harg3.unread y)) rout1) = _
  rw [hf0, hf1, hf2, View.ld_unit_lit _ _ (by decide), View.ld_unit_lit _ _ (by decide), View.ld_unit_lit _ _ (by decide)]

/-! ## The accumulation -/

/-- What one point makes of the accumulator `y`. -/
def step1 (first : Bool) (x0 : Vec F S1x22x256 .f32) (x1 : Vec F S1x252x252 .f32) (y : Vec F S1x1 .f32) : Vec F S1x1 .f32 :=
  if first then k1_pay1 (k1_pay3 x0 x1) k1_pay4 else k1_pay2 (k1_pay3 x0 x1) k1_pay4 y

/-- The output's buffer after the body at point `n`: the loss, accumulated over the eight batches. -/
def acc1 (c : Dev nD) : (n : ℕ) → n < cfg1.N → Vec F S1x1 .f32
  | 0, hn => step1 true (iblk1 V c 0 ⟨0, hn⟩) (iblk1 V c 1 ⟨0, hn⟩) (fun _ => Scalar.ofBits .f32 0x00000000#32)
  | n + 1, hn => step1 (decide ((n + 1) % 8 = 0)) (iblk1 V c 0 ⟨n + 1, hn⟩) (iblk1 V c 1 ⟨n + 1, hn⟩) (acc1 c n (Nat.lt_of_succ_lt hn))

theorem acc1_first (c : Dev nD) (t : Fin cfg1.N) (h : t.val % 8 = 0) :
    acc1 V c t.val t.isLt = (fun x0 x1 => k1_pay1 (k1_pay3 x0 x1) k1_pay4) (iblk1 V c 0 t) (iblk1 V c 1 t) := by
  obtain ⟨n, hn⟩ := t
  cases n with
  | zero => rfl
  | succ n =>
    unfold acc1 step1
    exact if_pos (decide_eq_true h)

theorem acc1_next (c : Dev nD) (t : Fin cfg1.N) (h : ¬ t.val % 8 = 0) :
    acc1 V c t.val t.isLt = (fun x0 x1 y => k1_pay2 (k1_pay3 x0 x1) k1_pay4 y) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n =>
    rw [acc1]
    unfold step1
    exact if_neg (by simpa using h)

/-! ## The pipeline's proof data -/

/-- The arrays as the region finds them; after the body at point `t` each input's buffer at its block and the output's at
    `acc1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point that adds to the accumulator, the output's buffer holds what the point before left. -/
theorem before1_2 (c : Dev nD) (t : Fin cfg1.N) (h : ¬ t.val % 8 = 0) (d) :
    (dat1 V c).before 2 t d = acc1 V c (t.val - 1) (Nat.lt_of_le_of_lt (Nat.sub_le _ _) t.isLt) := by
  rw [Dat.before_out_traj _ 2 rfl (fun _ _ => rfl)
      (fun s _ hi _ => absurd ((live1 s).symm.trans hi) Bool.false_ne_true) t.val t rfl d,
    if_neg (by rw [notFresh1 t h]; exact Bool.false_ne_true)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 800000 in
/-- The body at any point: its inputs' blocks are in place and the branch taken is known. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from by
      unfold Dat.leavesExact; rw [live1 t], after1_2]
  by_cases h : t.val % 8 = 0
  · rw [acc1_first V c t h]
    iintro ⟨HΦ, Ho, ⟨%d0, H0⟩, ⟨%d1, H1⟩, ⟨%d2, H2⟩⟩
    iapply (body1_first c Set.univ (grid1.coords t) _ _ _ _ _ _ ((isFirst1 t).mpr h) (fun h' => (isNext1 t).mp h' h) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_next V c t h]
    simp only [before1_2 V c t h]
    iintro ⟨HΦ, Ho, ⟨%d0, H0⟩, ⟨%d1, H1⟩, ⟨%d2, H2⟩⟩
    iapply (body1_next c Set.univ (grid1.coords t) _ _ _ _ _ _ (fun h' => h ((isFirst1 t).mp h')) ((isNext1 t).mpr h) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Acc

end
-- ==== Proof.Ideal.Run.lean ====
/- The whole program: the two calls and the final reshape as one run — every buffer followed from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.ValueKit.Basic
public import Idealize.ShloMosaic.Lib.Ring
public import Idealize.ShloMosaic.Lib.Tactic
public import Idealize.ShloMosaic.Lib.WordCmp
public import proofs.«01_k».proof.Proof.Ideal.Stats
public import proofs.«01_k».proof.Proof.Ideal.Tail

@[expose] public section

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch  -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v2]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- The buffers at region 0's exit: its arrays as the pipeline leaves them, every other buffer as it was. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0 changes only its output arrays. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit its arrays are as the pipeline leaves them, and every other buffer is as it was. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers at region 1's exit: its arrays as the pipeline leaves them, every other buffer as it was. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- Region 1 changes only its output arrays. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit its arrays are as the pipeline leaves them, and every other buffer is as it was. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2`. -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Each pipeline's proof data, at the contents its region starts from. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What goes along with the buffers: the core's generator register, at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end: every unscoped buffer at the last contents, and its generator register. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Call 0 as a segment: entered with every unscoped buffer at `W0`, left with them at `W1`; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W1`, left with them at `W2`; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
/-- @main is the run of these segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters @main terminates without fault; at the end the arguments are as launched, the result
    is what the last stretch leaves, and every semaphore counter is zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v2) = W3 m ρ c (Proc.devRef .tc main_v2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       h c _ (mem_uc main_v2 (by decide))⟩), funext fun g => hz g (.inr (no_unscoped g.2))⟩)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run m ρ)

end Cert.KernelIdeal.Acc

end
-- ==== Proof.Value.Spec.lean ====
/- The loss as one formula over the extended reals, which both the kernel and the references are shown to compute.
   A batch is a table of 21 rows of per-segment sums and one row of per-segment counts; the loss of a batch reads only
   its table and its adjacency matrix. -/
module

public import Idealize.ShloMosaic.Lib.Pointwise

@[expose] public section

noncomputable section

namespace Cert.Loss

open Idealize.ShloMosaic

abbrev SX : Shape := ⟨4, ![8, 21, 512, 512]⟩
abbrev SE : Shape := ⟨3, ![8, 512, 512]⟩
abbrev SA : Shape := ⟨3, ![8, 252, 252]⟩

/-- One pixel's largest score, and at least minus infinity. -/
def peak (v : Fin 21 → EReal) : EReal := Finset.univ.fold max (Ideal.ofBits .f32 0xFF800000#32) v

/-- One pixel's softmax at class `k`. -/
def share (v : Fin 21 → EReal) (k : Fin 21) : EReal :=
  Ideal.div (Ideal.exp (v k - peak v)) (∑ d, Ideal.exp (v d - peak v))

/-- The small constant that keeps the two quotients away from zero. -/
def eps : EReal := Ideal.ofBits .f32 0x358637BD#32

section Arrays

variable (x : SX.Idx → EReal) (e : SE.Idx → BitVec 32)

/-- The scores of pixel `n` of batch `b`, the pixels counted row by row. -/
def pixel (b : Fin 8) (n : Fin 262144) (k : Fin 21) : EReal := x (ix4 b k ⟨n.val / 512, by omega⟩ ⟨n.val % 512, by omega⟩)

/-- The label of pixel `n` of batch `b`. -/
def label (b : Fin 8) (n : Fin 262144) : BitVec 32 := e (ix3 b ⟨n.val / 512, by omega⟩ ⟨n.val % 512, by omega⟩)

/-- What pixel `n` puts into row `r` of its segment: its softmax at class `r`, and one in the row of counts. -/
def entry (b : Fin 8) (r : Fin 22) (n : Fin 262144) : EReal :=
  if h : r.val < 21 then share (pixel x b n) ⟨r.val, h⟩ else 1

/-- Batch `b`'s table: row `r`, segment `l`. -/
def table (b : Fin 8) (r : Fin 22) (l : Fin 256) : EReal :=
  ∑ n : Fin 262144, if label e b n = BitVec.ofNat 32 l.val then entry x b r n else 0

end Arrays

section Batch

variable (T : Fin 22 → Fin 256 → EReal) (A : Fin 252 → Fin 252 → EReal)

/-- Segment `i`'s count. -/
def count (i : Fin 252) : EReal := T 21 ⟨i.val, by omega⟩

/-- Segment `i`'s mean at class `k`: zero in an empty segment. -/
def mean (k : Fin 21) (i : Fin 252) : EReal :=
  if 0 < count T i then Ideal.div (T ⟨k.val, by omega⟩ ⟨i.val, by omega⟩) (if 0 < count T i then count T i else 1) else 0

/-- The mean over its norm. -/
def unit (k : Fin 21) (i : Fin 252) : EReal :=
  Ideal.div (mean T k i) (Ideal.sqrt (∑ d, mean T d i * mean T d i) + eps)

/-- The product of two segments' normalised means. -/
def gram (i j : Fin 252) : EReal := ∑ k, unit T k i * unit T k j

/-- The loss of one batch before the mean is taken. -/
def batchLoss : EReal := ∑ i, Ideal.div (∑ j, gram T i j * A i j) (∑ j, A i j + eps)

end Batch

/-- The number of rows that the mean is taken over, 2016. -/
def rows : EReal := Ideal.ofBits .f32 0x44FC0000#32

/-- The loss. -/
def loss (x : SX.Idx → EReal) (e : SE.Idx → BitVec 32) (a : SA.Idx → EReal) : EReal :=
  Ideal.div (∑ b : Fin 8, batchLoss (table x e b) fun i j => a (ix3 b i j)) rows

/-! ## Facts about the formula -/

theorem gram_comm (T : Fin 22 → Fin 256 → EReal) (i j : Fin 252) : gram T i j = gram T j i :=
  Finset.sum_congr rfl fun _ _ => mul_comm _ _

/-- The word that stands for minus infinity. -/
theorem low : Ideal.ofBits .f32 0xFF800000#32 = (⊥ : EReal) := by
  simp [Ideal.ofBits, Ideal.ieee]

theorem rows_eq : rows = ((2016 : ℝ) : EReal) := by
  unfold rows
  simp [Ideal.ofBits, Ideal.ieee, -EReal.coe_mul]; norm_num

/-- A quotient by the number of rows goes through a sum. -/
theorem div_rows_sum {ι : Type} (s : Finset ι) (f : ι → EReal) :
    ∑ b ∈ s, Ideal.div (f b) rows = Ideal.div (∑ b ∈ s, f b) rows := by
  classical
  have hne : rows ≠ 0 := by rw [rows_eq]; exact_mod_cast (by norm_num : (2016 : ℝ) ≠ 0)
  have hinv : rows⁻¹ = (((2016 : ℝ)⁻¹ : ℝ) : EReal) := by rw [rows_eq, ← EReal.coe_inv]
  have h0 : (0 : EReal) ≤ rows⁻¹ := by rw [hinv]; exact_mod_cast (by norm_num : (0 : ℝ) ≤ (2016 : ℝ)⁻¹)
  have ht : rows⁻¹ ≠ ⊤ := by rw [hinv]; exact EReal.coe_ne_top _
  simp only [Ideal.div, if_neg hne]
  induction s using Finset.induction_on with
  | empty => simp
  | insert b s hb ih => rw [Finset.sum_insert hb, Finset.sum_insert hb, ih, EReal.right_distrib_of_nonneg_of_ne_top h0 ht]

end Cert.Loss

end
-- ==== Proof.Value.Stats.lean ====
/- The first kernel's result array: every batch's table. A grid point adds one slab of 128 image rows; the four points of
   a batch add up to the table. -/
module

public import proofs.«01_k».proof.Proof.Ideal.Run
public import proofs.«01_k».proof.Proof.Value.Spec
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen Cert.KernelIdeal.Acc Cert.Loss

/-! ## One block -/

/-- The indicator that the kernel multiplies by, as a word compared, widened and read as a number. -/
theorem indicator (u v : BitVec 32) :
    FloatOps.sitofp (F := Ideal) FTy.f32 (BitVec.setWidth 32 (IntOp.cmpi CmpIPredicate.eq u v)) = if v = u then (1 : EReal) else 0 := by
  rcases eq_or_ne v u with h | h
  · rw [if_pos h, h]
    show ((((BitVec.setWidth 32 (BitVec.ofBool (u == u))).toInt : ℤ) : ℝ) : EReal) = 1
    rw [beq_self_eq_true, show (BitVec.setWidth 32 (BitVec.ofBool true)).toInt = 1 from by decide]; norm_num
  · rw [if_neg h]
    show ((((BitVec.setWidth 32 (BitVec.ofBool (u == v))).toInt : ℤ) : ℝ) : EReal) = 0
    rw [beq_eq_false_iff_ne.2 h.symm, show (BitVec.setWidth 32 (BitVec.ofBool false)).toInt = 0 from by decide]; norm_num

theorem pick (a : EReal) (p : Prop) [Decidable p] : a * (if p then (1 : EReal) else 0) = if p then a else 0 := by
  split
  · exact mul_one a
  · exact mul_zero a

/-- What the matrix product of a block holds at row `r` and segment `l`: a sum over the block's pixels. -/
theorem part_share (v0 : Vec Ideal S1x21x128x512 .f32) (v15 : Vec Ideal S1x128x512 .i32) (r : Fin 22) (l : Fin 256) :
    k0_pay1 v0 v15 (ix2 r l) = ∑ p : Fin 65536,
      if v15 (ix3 0 ⟨p.val / 512, by omega⟩ ⟨p.val % 512, by omega⟩) = BitVec.ofNat 32 l.val then
        (if h : r.val < 21 then share (fun k => v0 (ix4 0 k ⟨p.val / 512, by omega⟩ ⟨p.val % 512, by omega⟩)) ⟨r.val, h⟩ else 1) else 0 := by
  unfold share peak
  pointwise [k0_pay1]
  refine Finset.sum_congr (M := EReal) rfl fun p _ => ?_
  exact (congrArg (_ * ·) (indicator _ _)).trans (pick _ _)

theorem first_apply (v0 : Vec Ideal S1x21x128x512 .f32) (v15 : Vec Ideal S1x128x512 .i32) (r : Fin 22) (l : Fin 256) :
    k0_pay2 v0 v15 (ix3 0 r l) = k0_pay1 v0 v15 (ix2 r l) := by
  unfold k0_pay2
  generalize k0_pay1 v0 v15 = w
  pointwise

theorem next_apply (v0 : Vec Ideal S1x21x128x512 .f32) (v15 : Vec Ideal S1x128x512 .i32) (y : Vec Ideal S1x22x256 .f32)
    (r : Fin 22) (l : Fin 256) :
    k0_pay3 v0 v15 y (ix3 0 r l) = (y (ix3 0 r l) : EReal) + (k0_pay1 v0 v15 (ix2 r l) : EReal) := by
  unfold k0_pay3
  generalize k0_pay1 v0 v15 = w
  pointwise

/-! ## A batch's four blocks -/

section Slab

variable (x : SX.Idx → EReal) (e : SE.Idx → BitVec 32)

/-- Slab `s` of batch `b`: the part of the table that image rows `128 s … 128 s + 127` give. -/
def slab (b : Fin 8) (s : Fin 4) (r : Fin 22) (l : Fin 256) : EReal :=
  ∑ p : Fin 65536, if label e b ⟨s.val * 65536 + p.val, by omega⟩ = BitVec.ofNat 32 l.val then
    entry x b r ⟨s.val * 65536 + p.val, by omega⟩ else 0

theorem table_eq (b : Fin 8) (r : Fin 22) (l : Fin 256) : table x e b r l = ∑ s : Fin 4, slab x e b s r l := by
  unfold table slab
  exact Fin.sum_univ_tiles 4 65536 (by norm_num) _

/-- The slab's part, over naturals. -/
def slabAt (b s : ℕ) (i : Fin 22 × Fin 256) : EReal :=
  if h : b < 8 ∧ s < 4 then slab x e ⟨b, h.1⟩ ⟨s, h.2⟩ i.1 i.2 else 0

end Slab

section Blocks

variable (V : (c : Dev nD) → (b : Ref sig .tc) → Buf (Elt Ideal) ((c.tc : Thread nD τ).loc b))

theorem at0_0 : ∀ t : Fin cfg0.N, win0_0.index t = ![t.val / 4, 0, t.val % 4, 0] := by
  decide +kernel

theorem at0_1 : ∀ t : Fin cfg0.N, win0_1.index t = ![t.val / 4, t.val % 4, 0] := by
  decide +kernel

theorem at0_2 : ∀ t : Fin cfg0.N, win0_2.index t = ![t.val / 4, 0, 0] := by
  decide +kernel

theorem batch_lt (t : Fin cfg0.N) : t.val / 4 < 8 := by
  have h := t.isLt
  have : grid0.N = 32 := N_0
  change t.val < grid0.N at h
  omega

theorem scores (c : Dev nD) (t : Fin cfg0.N) (k : Fin 21) (h : Fin 128) (w : Fin 512) :
    iblk0 V c 0 t (ix4 0 k h w)
      = V c main_arg0 (ix4 ⟨t.val / 4, batch_lt t⟩ k ⟨t.val % 4 * 128 + h.val, by omega⟩ w) := by
  unfold iblk0
  blk_ext [at0_0 t]

theorem labels (c : Dev nD) (t : Fin cfg0.N) (h : Fin 128) (w : Fin 512) :
    iblk0 V c 1 t (ix3 0 h w) = V c main_arg1 (ix3 ⟨t.val / 4, batch_lt t⟩ ⟨t.val % 4 * 128 + h.val, by omega⟩ w) := by
  unfold iblk0
  blk_ext [at0_1 t]

/-- The block of point `t` gives slab `t % 4` of batch `t / 4`. -/
theorem part_slab (c : Dev nD) (t : Fin cfg0.N) (r : Fin 22) (l : Fin 256) :
    k0_pay1 (F := Ideal) (iblk0 V c 0 t) (iblk0 V c 1 t) (ix2 r l)
      = slab (V c main_arg0) (V c main_arg1) ⟨t.val / 4, batch_lt t⟩ ⟨t.val % 4, by omega⟩ r l := by
  refine (part_share _ _ r l).trans ?_
  unfold slab
  refine Finset.sum_congr (M := EReal) rfl fun p _ => ?_
  have hq : (t.val % 4 * 65536 + p.val) / 512 = t.val % 4 * 128 + p.val / 512 := by omega
  have hr : (t.val % 4 * 65536 + p.val) % 512 = p.val % 512 := by omega
  have hl : iblk0 V c 1 t (ix3 0 ⟨p.val / 512, by omega⟩ ⟨p.val % 512, by omega⟩)
      = label (V c main_arg1) ⟨t.val / 4, batch_lt t⟩ ⟨t.val % 4 * 65536 + p.val, by omega⟩ := by
    refine (labels V c t _ _).trans ?_
    unfold label
    exact congrArg (V c main_arg1) (by congr 1 <;> exact Fin.ext (by first | exact hq.symm | exact hr.symm))
  have hx : (fun k => iblk0 V c 0 t (ix4 0 k ⟨p.val / 512, by omega⟩ ⟨p.val % 512, by omega⟩))
      = pixel (V c main_arg0) ⟨t.val / 4, batch_lt t⟩ ⟨t.val % 4 * 65536 + p.val, by omega⟩ := by
    funext k
    refine (scores V c t k _ _).trans ?_
    unfold pixel
    exact congrArg (V c main_arg0) (by congr 1 <;> exact Fin.ext (by first | exact hq.symm | exact hr.symm))
  unfold entry
  rw [← hl, ← hx]

/-- After the last of a batch's points the accumulator is the batch's table. -/
theorem acc_table (c : Dev nD) (t : Fin cfg0.N) (h3 : t.val % 4 = 3) (r : Fin 22) (l : Fin 256) :
    acc0 V c t.val t.isLt (ix3 0 r l) = table (V c main_arg0) (V c main_arg1) ⟨t.val / 4, batch_lt t⟩ r l := by
  have key := Pipeline.eq_sum_of_reset_step_apply_divmod (M := EReal) (ι := Fin 22 × Fin 256)
    (fun n hn i => acc0 V c n hn (ix3 0 i.1 i.2)) 4 (fun _ => 0) (slabAt (V c main_arg0) (V c main_arg1))
    (fun t h i => by
      show acc0 V c t.val t.isLt (ix3 0 i.1 i.2) = _
      rw [acc0_first V c t h, zero_add]
      refine (first_apply _ _ i.1 i.2).trans ((part_slab V c t i.1 i.2).trans ?_)
      unfold slabAt
      rw [dif_pos ⟨batch_lt t, Nat.mod_lt _ (by norm_num)⟩])
    (fun t h i => by
      show acc0 V c t.val t.isLt (ix3 0 i.1 i.2) = _
      rw [acc0_next V c t h]
      refine (next_apply _ _ _ i.1 i.2).trans (congrArg (_ + ·) ((part_slab V c t i.1 i.2).trans ?_))
      unfold slabAt
      rw [dif_pos ⟨batch_lt t, Nat.mod_lt _ (by norm_num)⟩])
    t (r, l)
  refine key.trans ?_
  rw [zero_add, h3, Finset.sum_range, table_eq]
  refine Finset.sum_congr rfl fun s _ => ?_
  unfold slabAt
  rw [dif_pos ⟨batch_lt t, s.isLt⟩]

/-- The first kernel's result array holds every batch's table. -/
theorem tables (c : Dev nD) :
    (dat0 V c).arrAt 2 cfg0.N = fun i => table (V c main_arg0) (V c main_arg1) (i 0) (i 1) (i 2) := by
  refine (dat0 V c).arrAt_eq_of_covers 2 _ (by decide +kernel) fun t hf y => ?_
  blk_simp
  rw [after0_2]
  have h3 : t.val % 4 = 3 := (flush0_2 t).mp hf
  have hemb : ∀ (r : Fin 22) (l : Fin 256), (win0_2.blk t).view.emb (ix3 0 r l) = ix3 ⟨t.val / 4, batch_lt t⟩ r l := by
    intro r l
    blk_ext [at0_2 t]
  change S1x22x256.Idx at y
  idx_vars y
  obtain rfl : y0 = 0 := Subsingleton.elim _ _
  refine (acc_table V c t h3 y1 y2).trans ?_
  show _ = table (V c main_arg0) (V c main_arg1) ((win0_2.blk t).view.emb (ix3 0 y1 y2) 0)
    ((win0_2.blk t).view.emb (ix3 0 y1 y2) 1) ((win0_2.blk t).view.emb (ix3 0 y1 y2) 2)
  rw [hemb y1 y2]
  rfl

end Blocks

end Cert.KernelIdeal.Val

end
-- ==== Proof.Value.Tail.lean ====
/- The second kernel's result: the loss, from the tables. A grid point adds one batch's loss over the number of rows. -/
module

public import proofs.«01_k».proof.Proof.Ideal.Run
public import proofs.«01_k».proof.Proof.Value.Spec
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen Cert.KernelIdeal.Acc Cert.Loss

/-! ## One batch -/

/-- A grid point's body computes the batch's loss from the batch's table and adjacency matrix. -/
theorem batch_apply (v0 : Vec Ideal S1x22x256 .f32) (v25 : Vec Ideal S1x252x252 .f32) :
    k1_pay3 v0 v25 (ix2 0 0) = batchLoss (fun r l => v0 (ix3 0 r l)) fun i j => v25 (ix3 0 i j) := by
  unfold batchLoss gram unit mean Loss.count eps
  pointwise [k1_pay3]
  exact Finset.sum_congr (M := EReal) rfl fun i _ => Fin.sum_univ_one _

theorem first_tail (w : FVec Ideal S1x1 .f32) : k1_pay1 w k1_pay4 (ix2 0 0) = Ideal.div (w (ix2 0 0)) rows := by
  unfold rows
  pointwise [k1_pay1, k1_pay4]

theorem next_tail (w : FVec Ideal S1x1 .f32) (y : Vec Ideal S1x1 .f32) :
    k1_pay2 w k1_pay4 y (ix2 0 0) = (y (ix2 0 0) : EReal) + Ideal.div (w (ix2 0 0)) rows := by
  unfold rows
  pointwise [k1_pay2, k1_pay1, k1_pay4]

section Blocks

variable (V : (c : Dev nD) → (b : Ref sig .tc) → Buf (Elt Ideal) ((c.tc : Thread nD τ).loc b))

theorem at1_0 : ∀ t : Fin cfg1.N, win1_0.index t = ![t.val, 0, 0] := by
  decide +kernel

theorem at1_1 : ∀ t : Fin cfg1.N, win1_1.index t = ![t.val, 0, 0] := by
  decide +kernel

theorem point_lt (t : Fin cfg1.N) : t.val < 8 := by
  have h := t.isLt
  have : grid1.N = 8 := N_1
  change t.val < grid1.N at h
  omega

theorem table_block (c : Dev nD) (t : Fin cfg1.N) (r : Fin 22) (l : Fin 256) :
    iblk1 V c 0 t (ix3 0 r l) = V c main_v0 (ix3 ⟨t.val, point_lt t⟩ r l) := by
  unfold iblk1
  blk_ext [at1_0 t]

theorem adj_block (c : Dev nD) (t : Fin cfg1.N) (i j : Fin 252) :
    iblk1 V c 1 t (ix3 0 i j) = V c main_arg2 (ix3 ⟨t.val, point_lt t⟩ i j) := by
  unfold iblk1
  blk_ext [at1_1 t]

/-- Batch `b`'s loss, from the array of tables. -/
def batchAt (c : Dev nD) (b : Fin 8) : EReal :=
  batchLoss (fun r l => V c main_v0 (ix3 b r l)) fun i j => V c main_arg2 (ix3 b i j)

theorem batch_block (c : Dev nD) (t : Fin cfg1.N) :
    k1_pay3 (F := Ideal) (iblk1 V c 0 t) (iblk1 V c 1 t) (ix2 0 0) = batchAt V c ⟨t.val, point_lt t⟩ := by
  refine (batch_apply _ _).trans ?_
  unfold batchAt
  congr 1
  · funext r l; exact table_block V c t r l
  · funext i j; exact adj_block V c t i j

/-- The quotient that point `n` adds, over naturals. -/
def termAt (c : Dev nD) (n : ℕ) : EReal := if h : n < 8 then Ideal.div (batchAt V c ⟨n, h⟩) rows else 0

/-- After the last point the accumulator is the loss. -/
theorem acc_loss (c : Dev nD) (t : Fin cfg1.N) (h7 : t.val % 8 = 7) :
    acc1 V c t.val t.isLt (ix2 0 0) = Ideal.div (∑ b : Fin 8, batchAt V c b) rows := by
  have key := Pipeline.eq_sum_of_reset_step_single_of_mod (M := EReal) (fun n hn => acc1 V c n hn (ix2 0 0)) 8 0 (termAt V c)
    (fun t h => by
      show acc1 V c t.val t.isLt (ix2 0 0) = _
      rw [acc1_first V c t h, zero_add]
      refine (first_tail _).trans ?_
      rw [batch_block]
      unfold termAt
      rw [dif_pos (point_lt t)])
    (fun t h => by
      show acc1 V c t.val t.isLt (ix2 0 0) = _
      rw [acc1_next V c t h]
      refine (next_tail _ _).trans (congrArg (_ + ·) ?_)
      rw [batch_block]
      unfold termAt
      rw [dif_pos (point_lt t)])
    (le_of_eq N_1) t h7
  refine key.trans ?_
  rw [zero_add, Finset.sum_range, ← div_rows_sum]
  refine Finset.sum_congr rfl fun b _ => ?_
  unfold termAt
  rw [dif_pos b.isLt]

/-- The last grid point. -/
def lastPoint : Fin cfg1.N := ⟨7, by rw [show cfg1.N = 8 from N_1]; norm_num⟩

/-- The second kernel's result array holds the loss. -/
theorem total (c : Dev nD) : (dat1 V c).arrAt 2 cfg1.N = fun _ => Ideal.div (∑ b : Fin 8, batchAt V c b) rows := by
  refine (dat1 V c).arrAt_eq_of_after_last 2 lastPoint (by decide +kernel) _ fun j => ?_
  rw [after1_2]
  change S1x1.Idx at j
  idx_vars j
  obtain rfl : j0 = 0 := Subsingleton.elim _ _
  obtain rfl : j1 = 0 := Subsingleton.elim _ _
  refine Eq.trans ?_ (acc_loss V c lastPoint rfl)
  exact congrArg (acc1 V c lastPoint.val lastPoint.isLt) (by decide)

end Blocks

end Cert.KernelIdeal.Val

end
-- ==== Proof.Value.Kernel.lean ====
/- The whole idealized kernel: its result is the loss of its three arguments. -/
module

public import proofs.«01_k».proof.Proof.Value.Stats
public import proofs.«01_k».proof.Proof.Value.Tail
public import Idealize.ShloMosaic.Lib.StableHlo.Run

@[expose] public section

set_option maxRecDepth 16384

noncomputable section

namespace Cert.KernelIdeal.Val

open Idealize.ShloMosaic Idealize.ShloMosaic.TcCoe Idealize.SL.Sem
open Cert.KernelIdeal.Gen Cert.KernelIdeal.Acc Cert.Loss

variable (m : (ℓ : Loc nD τ sig) → Buf (Elt Ideal) ℓ) (ρ : Dev nD → PrngReg)

/-- The second kernel starts from the tables. -/
theorem entry_tables (c : Dev nD) :
    V1 m ρ c main_v0 = fun i => table (m ((c : Thread nD τ).loc main_arg0)) (m ((c : Thread nD τ).loc main_arg1)) (i 0) (i 1) (i 2) :=
  (W1_arr m ρ c 2).trans (tables (V0 m ρ) c)

theorem entry_adj (c : Dev nD) : V1 m ρ c main_arg2 = m ((c : Thread nD τ).loc main_arg2) :=
  W1_args m ρ c main_arg2 (by decide)

/-- The second kernel leaves the loss. -/
theorem exit_loss (c : Dev nD) :
    W2 m ρ c (Proc.devRef .tc main_v1) = fun _ => loss (m ((c : Thread nD τ).loc main_arg0))
      (m ((c : Thread nD τ).loc main_arg1)) (m ((c : Thread nD τ).loc main_arg2)) := by
  refine (W2_arr m ρ c 2).trans ((total (V1 m ρ) c).trans ?_)
  funext _
  unfold loss batchAt
  rw [entry_tables, entry_adj]
  rfl

theorem result (c : Dev nD) :
    W3 m ρ c (Proc.devRef .tc main_v2) = fun _ => loss (m ((c : Thread nD τ).loc main_arg0))
      (m ((c : Thread nD τ).loc main_arg1)) (m ((c : Thread nD τ).loc main_arg2)) := by
  show StableHlo.after hostOps2 (W2 m ρ c) (Proc.devRef .tc main_v2) = _
  rw [hostOps2]
  after_results
  rw [exit_loss]
  rfl

/-- The kernel's run, with its result named. -/
theorem run_loss : θ_run defs (onTc (τ := τ) (main (F := Ideal))) ⟨m, fun _ => 0, ρ⟩ (fun r => ∀ c : Dev nD,
      r.2.mem ((c.tc : Thread nD τ).loc main_v2) = (fun _ => loss (m ((c : Thread nD τ).loc main_arg0))
        (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2.2.2.trans (result m ρ c), (h.1 c).1, (h.1 c).2.1, (h.1 c).2.2.1⟩) (run m ρ)

end Cert.KernelIdeal.Val

end
-- ==== Proof.Value.Stages.lean ====
/- The reference in stages: the softmax, the index words, the counts, the sums, and the loss from these. -/
module

public import proofs.«01_k».proof.Proof.Gen.ReferenceIdeal.Run
public import proofs.«01_k».proof.Proof.Value.Spec

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

/-- The softmax of the scores over the classes. -/
def softmax (x : FVec Ideal S8x21x512x512 .f32) : FVec Ideal S8x21x512x512 .f32 :=
  have cst : FVec Ideal S_ .f32 := constant S_ .f32 0xFF800000#32
  have v0 : FVec Ideal S8x512x512 .f32 := Host.reduce FloatOps.maximumf x cst reducesTo_S8x21x512x512_S8x512x512_d1 h_S_
  have cst_0 : FVec Ideal S_ .f32 := constant S_ .f32 0xFF800000#32
  have v1 : FVec Ideal S8x512x512 .f32 := broadcastInDim S8x512x512 ![] bcast_S_S8x512x512 cst_0
  have v2 : FVec Ideal S8x512x512 .f32 := maximumf v1 v0
  have v3 : FVec Ideal S8x1x512x512 .f32 := broadcastInDim S8x1x512x512 ![0, 2, 3] bcast_S8x512x512_S8x1x512x512_0_2_3 v2
  have v4 : FVec Ideal S8x21x512x512 .f32 := broadcastInDim S8x21x512x512 ![0, 1, 2, 3] bcast_S8x1x512x512_S8x21x512x512_0_1_2_3 v3
  have v5 : FVec Ideal S8x21x512x512 .f32 := subf x v4
  have v6 : FVec Ideal S8x21x512x512 .f32 := Host.exp v5
  have cst_1 : FVec Ideal S_ .f32 := constant S_ .f32 0x00000000#32
  have v7 : FVec Ideal S8x512x512 .f32 := Host.reduceAdd v6 cst_1 reducesTo_S8x21x512x512_S8x512x512_d1 h_S_
  have v8 : FVec Ideal S8x1x512x512 .f32 := broadcastInDim S8x1x512x512 ![0, 2, 3] bcast_S8x512x512_S8x1x512x512_0_2_3 v7
  have v9 : FVec Ideal S8x21x512x512 .f32 := broadcastInDim S8x21x512x512 ![0, 1, 2, 3] bcast_S8x1x512x512_S8x21x512x512_0_1_2_3 v8
  have v10 : FVec Ideal S8x21x512x512 .f32 := Host.divf v6 v9
  v10

/-- The pairs of index words: a batch and a label for every pixel. -/
def words (e : IVec S8x512x512 32) : IVec S8x262144x2 32 :=
  have v11 : IVec S8x262144 32 := shapeCast S8x262144 e shapeCasts_S8x512x512_S8x262144
  have v13 : IVec S8 32 := iotaInDim S8 32 0
  have v14 : IVec S8x1 32 := broadcastInDim S8x1 ![0] bcast_S8_S8x1_0 v13
  have c_2 : IVec S_ 32 := constantI S_ 32 0#32
  have v16 : IVec S8x1 32 := broadcastInDim S8x1 ![] bcast_S_S8x1 c_2
  have v17 : IVec S8x1 1 := cmpi .slt v14 v16
  have c_3 : IVec S_ 32 := constantI S_ 32 8#32
  have v18 : IVec S8x1 32 := broadcastInDim S8x1 ![] bcast_S_S8x1 c_3
  have v19 : IVec S8x1 32 := addi v14 v18
  have v20 : IVec S8x1 32 := select v17 v19 v14
  have c_4 : IVec S_ 32 := constantI S_ 32 0#32
  have v21 : IVec S8x262144 32 := broadcastInDim S8x262144 ![] bcast_S_S8x262144 c_4
  have v22 : IVec S8x262144 1 := cmpi .slt v11 v21
  have c_5 : IVec S_ 32 := constantI S_ 32 256#32
  have v23 : IVec S8x262144 32 := broadcastInDim S8x262144 ![] bcast_S_S8x262144 c_5
  have v24 : IVec S8x262144 32 := addi v11 v23
  have v25 : IVec S8x262144 32 := select v22 v24 v11
  have v26 : IVec S8x262144 32 := broadcastInDim S8x262144 ![0, 1] bcast_S8x1_S8x262144_0_1 v20
  have v27 : IVec S8x262144x1 32 := broadcastInDim S8x262144x1 ![0, 1] bcast_S8x262144_S8x262144x1_0_1 v26
  have v28 : IVec S8x262144x1 32 := broadcastInDim S8x262144x1 ![0, 1] bcast_S8x262144_S8x262144x1_0_1 v25
  have v29 : IVec S8x262144x2 32 := concatenate S8x262144x2 2 [⟨S8x262144x1, v27⟩, ⟨S8x262144x1, v28⟩] concatenates_S8x262144x1_S8x262144x1_S8x262144x2_d2
  v29

/-- Every segment's count. -/
def counts (e : IVec S8x512x512 32) : FVec Ideal S8x256 .f32 :=
  have c : IVec S_ 32 := constantI S_ 32 0#32
  have v15 : IVec S8x256 32 := broadcastInDim S8x256 ![] bcast_S_S8x256 c
  have c_6 : IVec S_ 32 := constantI S_ 32 1#32
  have v30 : IVec S8x262144 32 := broadcastInDim S8x262144 ![] bcast_S_S8x262144 c_6
  have v31 : IVec S8x256 32 := Host.scatter scatter_S8x256_S8x262144x2_S8x262144_n_01_01_2 IntOp.addi v15 (words e) v30
  have v32 : FVec Ideal S8x256 .f32 := sitofp .f32 v31
  v32

/-- Every segment's sums. -/
def sums (x : FVec Ideal S8x21x512x512 .f32) (e : IVec S8x512x512 32) : FVec Ideal S8x21x256 .f32 :=
  have cst_7 : FVec Ideal S_ .f32 := constant S_ .f32 0x00000000#32
  have v34 : FVec Ideal S8x21x256 .f32 := broadcastInDim S8x21x256 ![] bcast_S_S8x21x256 cst_7
  have v12 : FVec Ideal S8x21x262144 .f32 := shapeCast S8x21x262144 (softmax x) shapeCasts_S8x21x512x512_S8x21x262144
  have v35 : FVec Ideal S8x262144x21 .f32 := transpose S8x262144x21 [0, 2, 1] v12 transposes_S8x21x262144_S8x262144x21_0_2_1
  have v50 : FVec Ideal S8x21x256 .f32 := Host.scatterAdd scatter_S8x21x256_S8x262144x2_S8x262144x21_2_02_02_2 v34 (words e) v35
  v50

/-- The loss, from the counts, the sums and the adjacency matrices. -/
def tail (n : FVec Ideal S8x256 .f32) (s : FVec Ideal S8x21x256 .f32) (a : FVec Ideal S8x252x252 .f32) : FVec Ideal S_ .f32 :=
  have v33 : FVec Ideal S8x1x256 .f32 := broadcastInDim S8x1x256 ![0, 2] bcast_S8x256_S8x1x256_0_2 n
  have cst_12 : FVec Ideal S_ .f32 := constant S_ .f32 0x00000000#32
  have v51 : FVec Ideal S8x1x256 .f32 := broadcastInDim S8x1x256 ![] bcast_S_S8x1x256 cst_12
  have v52 : IVec S8x1x256 1 := cmpf .ogt v33 v51
  have cst_13 : FVec Ideal S_ .f32 := constant S_ .f32 0x3F800000#32
  have v53 : FVec Ideal S8x1x256 .f32 := broadcastInDim S8x1x256 ![] bcast_S_S8x1x256 cst_13
  have v54 : FVec Ideal S8x1x256 .f32 := select v52 v33 v53
  have cst_14 : FVec Ideal S_ .f32 := constant S_ .f32 0x00000000#32
  have v55 : FVec Ideal S8x1x256 .f32 := broadcastInDim S8x1x256 ![] bcast_S_S8x1x256 cst_14
  have v56 : IVec S8x1x256 1 := cmpf .ogt v33 v55
  have v57 : FVec Ideal S8x21x256 .f32 := broadcastInDim S8x21x256 ![0, 1, 2] bcast_S8x1x256_S8x21x256_0_1_2 v54
  have v58 : FVec Ideal S8x21x256 .f32 := Host.divf s v57
  have cst_15 : FVec Ideal S_ .f32 := constant S_ .f32 0x00000000#32
  have v59 : FVec Ideal S8x21x256 .f32 := broadcastInDim S8x21x256 ![] bcast_S_S8x21x256 cst_15
  have call1_v0 : IVec S8x21x256 1 := broadcastInDim S8x21x256 ![0, 1, 2] bcast_S8x1x256_S8x21x256_0_1_2 v56
  have v60 : FVec Ideal S8x21x256 .f32 := select call1_v0 v58 v59
  have v61 : FVec Ideal S8x21x252 .f32 := extractStridedSlice S8x21x252 ![0, 0, 0] v60 slices_S8x21x256_S8x21x252_0_0_0
  have call2_v0 : FVec Ideal S8x21x252 .f32 := mulf v61 v61
  have call2_cst : FVec Ideal S_ .f32 := constant S_ .f32 0x00000000#32
  have call2_v1 : FVec Ideal S8x252 .f32 := Host.reduceAdd call2_v0 call2_cst reducesTo_S8x21x252_S8x252_d1 h_S_
  have call2_v2 : FVec Ideal S8x1x252 .f32 := broadcastInDim S8x1x252 ![0, 2] bcast_S8x252_S8x1x252_0_2 call2_v1
  have v62 : FVec Ideal S8x1x252 .f32 := Host.sqrt call2_v2
  have cst_16 : FVec Ideal S_ .f32 := constant S_ .f32 0x358637BD#32
  have v63 : FVec Ideal S8x1x252 .f32 := broadcastInDim S8x1x252 ![] bcast_S_S8x1x252 cst_16
  have v64 : FVec Ideal S8x1x252 .f32 := addf v62 v63
  have v65 : FVec Ideal S8x21x252 .f32 := broadcastInDim S8x21x252 ![0, 1, 2] bcast_S8x1x252_S8x21x252_0_1_2 v64
  have v66 : FVec Ideal S8x21x252 .f32 := Host.divf v61 v65
  have v67 : FVec Ideal S8x252x252 .f32 := Host.dotGeneral dot_S8x21x252_S8x21x252_S8x252x252_1_1_2_2_0_0 none v66 v66
  have v68 : FVec Ideal S8x252x252 .f32 := mulf v67 a
  have cst_17 : FVec Ideal S_ .f32 := constant S_ .f32 0x00000000#32
  have v69 : FVec Ideal S8x252 .f32 := Host.reduceAdd v68 cst_17 reducesTo_S8x252x252_S8x252_d1 h_S_
  have cst_18 : FVec Ideal S_ .f32 := constant S_ .f32 0x00000000#32
  have v70 : FVec Ideal S8x252 .f32 := Host.reduceAdd a cst_18 reducesTo_S8x252x252_S8x252_d1 h_S_
  have cst_19 : FVec Ideal S_ .f32 := constant S_ .f32 0x358637BD#32
  have v71 : FVec Ideal S8x252 .f32 := broadcastInDim S8x252 ![] bcast_S_S8x252 cst_19
  have v72 : FVec Ideal S8x252 .f32 := addf v70 v71
  have v73 : FVec Ideal S8x252 .f32 := Host.divf v69 v72
  have cst_20 : FVec Ideal S_ .f32 := constant S_ .f32 0x00000000#32
  have v74 : FVec Ideal S_ .f32 := Host.reduceAdd v73 cst_20 reducesTo_S8x252_S_d0_1 h_S_
  have cst_21 : FVec Ideal S_ .f32 := constant S_ .f32 0x44FC0000#32
  have v75 : FVec Ideal S_ .f32 := Host.divf v74 cst_21
  v75

/-- The generated result term is these stages. -/
theorem result_stages (m : (ℓ : Loc nD τ sig) → Buf (Elt Ideal) ℓ) (c : Dev nD) :
    Value.res_main_v75 m c = tail (counts (m ((c : Thread nD τ).loc main_arg1)))
      (sums (m ((c : Thread nD τ).loc main_arg0)) (m ((c : Thread nD τ).loc main_arg1))) (m ((c : Thread nD τ).loc main_arg2)) := by
  unfold Value.res_main_v75 tail counts sums words softmax
  rfl

end Cert.ReferenceIdeal.Val

end
-- ==== Proof.Value.Scatter.lean ====
/- The two scatters of the reference, read at an element: the count of the pixels that carry a batch and a label, and the
   sum of these pixels' updates. -/
module

public import Idealize.ShloMosaic.Lib.Pointwise
public import Idealize.ShloMosaic.Lib.Pointwise.IndexBridge
public import Idealize.ShloMosaic.Lib.Routing.OpsPair

@[expose] public section

set_option maxRecDepth 16384

noncomputable section

namespace Cert.Loss

open Idealize.ShloMosaic

abbrev SWords : Shape := ⟨3, ![8, 262144, 2]⟩
abbrev SCount : Shape := ⟨2, ![8, 256]⟩
abbrev SOnes : Shape := ⟨2, ![8, 262144]⟩
abbrev SSums : Shape := ⟨3, ![8, 21, 256]⟩
abbrev SUpd : Shape := ⟨3, ![8, 262144, 21]⟩

/-- The scatter of one word per pixel. -/
def countDims (wf : ScatterDims.WF SCount SWords SOnes [] [0, 1] [0, 1] 2) : ScatterDims SCount SWords SOnes where
  updateWindowDims := []
  insertedWindowDims := [0, 1]
  scatterDimsToOperandDims := [0, 1]
  indexVectorDim := 2
  wf := wf

/-- The scatter of one window of 21 classes per pixel. -/
def sumDims (wf : ScatterDims.WF SSums SWords SUpd [2] [0, 2] [0, 2] 2) : ScatterDims SSums SWords SUpd where
  updateWindowDims := [2]
  insertedWindowDims := [0, 2]
  scatterDimsToOperandDims := [0, 2]
  indexVectorDim := 2
  wf := wf

/-! ## Where an update lands -/

theorem count_lands (wf) (idx : IVec SWords 32) (b : Fin 8) (n : Fin 262144) (b' : Fin 8) (l : Fin 256) :
    (countDims wf).resultIdx? (ix2 b n) idx = some (ix2 b' l)
      ↔ (idx (ix3 b n 0)).toInt = b'.val ∧ (idx (ix3 b n 1)).toInt = l.val := by
  rw [ix2_eq_valueIdx, ix2_eq_valueIdx, ix3_eq_valueIdx, ix3_eq_valueIdx]
  exact Routing.scatter_lands2 (countDims wf) rfl rfl rfl idx b n b' l

theorem sum_start0 (wf) (idx : IVec SWords 32) (b : Fin 8) (n : Fin 262144) (k : Fin 21) :
    (sumDims wf).start (ix3 b n k) idx 0 = (idx (ix3 b n 0)).toInt := by
  unfold ScatterDims.start
  rw [dif_pos (by show (0 : Fin 3) ∈ [0, 2]; decide)]
  refine congrArg (fun i => (idx i).toInt) (funext fun q => Fin.ext ?_)
  match q with
  | ⟨0, _⟩ => rfl
  | ⟨1, _⟩ => rfl
  | ⟨2, _⟩ => rfl

theorem sum_start1 (wf) (idx : IVec SWords 32) (b : Fin 8) (n : Fin 262144) (k : Fin 21) :
    (sumDims wf).start (ix3 b n k) idx 1 = 0 := by
  unfold ScatterDims.start
  rw [dif_neg (by show ¬ (1 : Fin 3) ∈ [0, 2]; decide)]

theorem sum_start2 (wf) (idx : IVec SWords 32) (b : Fin 8) (n : Fin 262144) (k : Fin 21) :
    (sumDims wf).start (ix3 b n k) idx 2 = (idx (ix3 b n 1)).toInt := by
  unfold ScatterDims.start
  rw [dif_pos (by show (2 : Fin 3) ∈ [0, 2]; decide)]
  refine congrArg (fun i => (idx i).toInt) (funext fun q => Fin.ext ?_)
  match q with
  | ⟨0, _⟩ => rfl
  | ⟨1, _⟩ => rfl
  | ⟨2, _⟩ => rfl

theorem sum_window0 (wf) (b : Fin 8) (n : Fin 262144) (k : Fin 21) : (sumDims wf).window (ix3 b n k) 0 = 0 := rfl
theorem sum_window1 (wf) (b : Fin 8) (n : Fin 262144) (k : Fin 21) : (sumDims wf).window (ix3 b n k) 1 = k.val := rfl
theorem sum_window2 (wf) (b : Fin 8) (n : Fin 262144) (k : Fin 21) : (sumDims wf).window (ix3 b n k) 2 = 0 := rfl

theorem sum_lands (wf) (idx : IVec SWords 32) (b : Fin 8) (n : Fin 262144) (k : Fin 21) (b' : Fin 8) (k' : Fin 21) (l : Fin 256) :
    (sumDims wf).resultIdx? (ix3 b n k) idx = some (ix3 b' k' l)
      ↔ (idx (ix3 b n 0)).toInt = b'.val ∧ k = k' ∧ (idx (ix3 b n 1)).toInt = l.val := by
  rw [Routing.resultIdx?_eq_some]
  constructor
  · intro h
    have h0 := h 0
    have h1 := h 1
    have h2 := h 2
    rw [sum_start0, sum_window0] at h0
    rw [sum_start1, sum_window1] at h1
    rw [sum_start2, sum_window2] at h2
    change _ = (b'.val : Int) at h0
    change _ = (k'.val : Int) at h1
    change _ = (l.val : Int) at h2
    exact ⟨by omega, Fin.ext (by omega), by omega⟩
  · rintro ⟨h0, rfl, h2⟩ a
    match a with
    | ⟨0, _⟩ =>
      show (sumDims wf).start (ix3 b n k) idx 0 + ((sumDims wf).window (ix3 b n k) 0 : Int) = (b'.val : Int)
      rw [sum_start0, sum_window0]; omega
    | ⟨1, _⟩ =>
      show (sumDims wf).start (ix3 b n k) idx 1 + ((sumDims wf).window (ix3 b n k) 1 : Int) = (k.val : Int)
      rw [sum_start1, sum_window1]; omega
    | ⟨2, _⟩ =>
      show (sumDims wf).start (ix3 b n k) idx 2 + ((sumDims wf).window (ix3 b n k) 2 : Int) = (l.val : Int)
      rw [sum_start2, sum_window2]; omega

/-! ## The count -/

/-- A word counted up once for every element of a list that passes. -/
theorem count_fold {α : Type} (p : α → Prop) [DecidablePred p] (L : List α) (a : BitVec 32) :
    L.foldl (fun a n => if p n then IntOp.addi a 1#32 else a) a = a + BitVec.ofNat 32 (L.countP fun n => decide (p n)) := by
  induction L generalizing a with
  | nil => simp
  | cons h t ih =>
    rw [List.foldl_cons, ih]
    by_cases hp : p h
    · rw [if_pos hp, List.countP_cons_of_pos (by simpa using hp)]
      show a + 1#32 + _ = _
      rw [BitVec.add_assoc, BitVec.add_comm (1#32), ← BitVec.ofNat_add]
    · rw [if_neg hp, List.countP_cons_of_neg (by simpa using hp)]

theorem countP_range (N : ℕ) (p : Fin N → Prop) [DecidablePred p] :
    (List.finRange N).countP (fun n => decide (p n)) = ∑ n : Fin N, if p n then 1 else 0 := by
  rw [Finset.sum_boole, List.countP_eq_length_filter]
  simp only [Nat.cast_id]
  rw [← List.toFinset_card_of_nodup ((List.nodup_finRange N).filter _)]
  congr 1
  ext n
  simp

theorem toInt_count (k : ℕ) (h : k < 2 ^ 31) : (BitVec.ofNat 32 k).toInt = k := by
  have e : (BitVec.ofNat 32 k).toNat = k := by
    rw [BitVec.toNat_ofNat]
    exact Nat.mod_eq_of_lt (by omega)
  rw [BitVec.toInt_eq_toNat_of_lt (by rw [e]; omega), e]

/-- A natural number, read as a number. -/
def numeral : ℕ →+ EReal where
  toFun k := (((k : ℤ) : ℝ) : EReal)
  map_zero' := by simp
  map_add' a b := by push_cast; rfl

theorem numeral_count {α β : Type} [Fintype α] [Fintype β] (p : α → β → Prop) [∀ a b, Decidable (p a b)] :
    numeral (∑ a, ∑ b, if p a b then 1 else 0) = ∑ a, ∑ b, if p a b then (1 : EReal) else 0 := by
  rw [map_sum]
  refine Finset.sum_congr rfl fun a _ => ?_
  rw [map_sum]
  refine Finset.sum_congr rfl fun b _ => ?_
  split
  · show (((1 : ℕ) : ℤ) : ℝ) = (1 : EReal)
    simp
  · exact map_zero numeral

theorem sitofp_eq (v : BitVec 32) : FloatOps.sitofp (F := Ideal) .f32 v = ((v.toInt : ℝ) : EReal) := rfl

/-- The scatter of ones, read as a number. -/
theorem count_apply (wf) (idx : IVec SWords 32) (x0 : IVec SCount 32) (ones : IVec SOnes 32) (h0 : ∀ i, x0 i = 0#32)
    (h1 : ∀ i, ones i = 1#32) (b : Fin 8) (l : Fin 256) :
    FloatOps.sitofp (F := Ideal) .f32 (Host.scatter (countDims wf) IntOp.addi x0 idx ones (ix2 b l))
      = ∑ b' : Fin 8, ∑ n : Fin 262144,
          if (idx (ix3 b' n 0)).toInt = b.val ∧ (idx (ix3 b' n 1)).toInt = l.val then (1 : EReal) else 0 := by
  rw [Routing.scatter_at]
  simp only [h0, h1]
  rw [count_fold, countP_range]
  set f : SOnes.Idx → ℕ := fun k => if (countDims wf).resultIdx? k idx = some (ix2 b l) then 1 else 0 with hf
  have e : (∑ n : Fin SOnes.numel, if (countDims wf).resultIdx? (SOnes.rowMajor.symm n) idx = some (ix2 b l) then 1 else 0)
      = ∑ b' : Fin 8, ∑ n : Fin 262144,
          if (idx (ix3 b' n 0)).toInt = b.val ∧ (idx (ix3 b' n 1)).toInt = l.val then 1 else 0 := by
    refine (Equiv.sum_comp SOnes.rowMajor.symm f).trans ((sum_idx2 f).trans ?_)
    refine Finset.sum_congr rfl fun b' _ => Finset.sum_congr rfl fun n _ => ?_
    exact if_congr (count_lands wf idx b' n b l) rfl rfl
  rw [e]
  have hle : (∑ b' : Fin 8, ∑ n : Fin 262144,
      if (idx (ix3 b' n 0)).toInt = b.val ∧ (idx (ix3 b' n 1)).toInt = l.val then 1 else 0) ≤ 8 * 262144 := by
    calc _ ≤ ∑ b' : Fin 8, ∑ n : Fin 262144, 1 :=
          Finset.sum_le_sum fun b' _ => Finset.sum_le_sum fun n _ => by split <;> omega
      _ = 8 * 262144 := by simp
  rw [BitVec.zero_add]
  rw [sitofp_eq, toInt_count _ (lt_of_le_of_lt hle (by norm_num))]
  exact numeral_count fun (b' : Fin 8) (n : Fin 262144) =>
    (idx (ix3 b' n 0)).toInt = b.val ∧ (idx (ix3 b' n 1)).toInt = l.val

/-! ## The sums -/

/-- The scatter of windows, read at an element. -/
theorem sum_apply (wf) (idx : IVec SWords 32) (x0 : FVec Ideal SSums .f32) (upd : FVec Ideal SUpd .f32)
    (h0 : ∀ i, x0 i = (0 : EReal)) (b : Fin 8) (k : Fin 21) (l : Fin 256) :
    Host.scatterAdd (F := Ideal) (sumDims wf) x0 idx upd (ix3 b k l)
      = ∑ b' : Fin 8, ∑ n : Fin 262144,
          if (idx (ix3 b' n 0)).toInt = b.val ∧ (idx (ix3 b' n 1)).toInt = l.val then (upd (ix3 b' n k) : EReal) else 0 := by
  show (x0 (ix3 b k l) : EReal) + ∑ j ∈ Finset.univ.filter (fun j => (sumDims wf).resultIdx? j idx = some (ix3 b k l)), (upd j : EReal) = _
  rw [h0, zero_add, Finset.sum_filter]
  refine (sum_idx3 _).trans ?_
  refine Finset.sum_congr rfl fun b' _ => Finset.sum_congr rfl fun n _ => ?_
  simp only [sum_lands]
  by_cases h : (idx (ix3 b' n 0)).toInt = b.val ∧ (idx (ix3 b' n 1)).toInt = l.val
  · rw [if_pos h]
    simp only [h.1, h.2, true_and, and_true]
    exact Finset.sum_ite_eq' Finset.univ k _ |>.trans (if_pos (Finset.mem_univ _))
  · rw [if_neg h]
    exact Finset.sum_eq_zero fun q _ => if_neg fun hq => h ⟨hq.1, hq.2.2⟩

end Cert.Loss

end
-- ==== Proof.Value.Reference.lean ====
/- The reference computes the loss of the scores, the labels and the transposed adjacency matrices. -/
module

public import proofs.«01_k».proof.Proof.Value.Stages
public import proofs.«01_k».proof.Proof.Value.Scatter

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Loss

/-! ## The softmax -/

/-- Every pixel's largest score. -/
def top (x : FVec Ideal S8x21x512x512 .f32) : FVec Ideal S8x512x512 .f32 :=
  maximumf (broadcastInDim S8x512x512 ![] bcast_S_S8x512x512 (constant S_ .f32 0xFF800000#32))
    (Host.reduce FloatOps.maximumf x (constant S_ .f32 0xFF800000#32) reducesTo_S8x21x512x512_S8x512x512_d1 h_S_)

/-- The value of a pixel at every class. -/
def spread (y : FVec Ideal S8x512x512 .f32) : FVec Ideal S8x21x512x512 .f32 :=
  broadcastInDim S8x21x512x512 ![0, 1, 2, 3] bcast_S8x1x512x512_S8x21x512x512_0_1_2_3
    (broadcastInDim S8x1x512x512 ![0, 2, 3] bcast_S8x512x512_S8x1x512x512_0_2_3 y)

/-- The sum over the classes. -/
def total (y : FVec Ideal S8x21x512x512 .f32) : FVec Ideal S8x512x512 .f32 :=
  Host.reduceAdd y (constant S_ .f32 0x00000000#32) reducesTo_S8x21x512x512_S8x512x512_d1 h_S_

theorem softmax_eq (x : FVec Ideal S8x21x512x512 .f32) :
    softmax x = Host.divf (Host.exp (subf x (spread (top x)))) (spread (total (Host.exp (subf x (spread (top x)))))) := rfl

theorem spread_apply (y : FVec Ideal S8x512x512 .f32) (b : Fin 8) (k : Fin 21) (h w : Fin 512) :
    spread y (ix4 b k h w) = y (ix3 b h w) := by
  pointwise [spread]

theorem total_apply (y : FVec Ideal S8x21x512x512 .f32) (b : Fin 8) (h w : Fin 512) :
    total y (ix3 b h w) = ∑ k, (y (ix4 b k h w) : EReal) := by
  pointwise [total]

theorem reduce_top (x : FVec Ideal S8x21x512x512 .f32) (b : Fin 8) (h w : Fin 512) :
    Host.reduce FloatOps.maximumf x (constant S_ .f32 0xFF800000#32) reducesTo_S8x21x512x512_S8x512x512_d1 h_S_ (ix3 b h w)
      = peak fun k => x (ix4 b k h w) := by
  unfold peak
  pointwise

/-- The larger of minus infinity and a value is the value. -/
theorem max_low {S : Shape} (c y : FVec Ideal S .f32) (i : S.Idx) (h : c i = Ideal.ofBits .f32 0xFF800000#32) :
    maximumf c y i = y i := by
  have e : (c i : EReal) = ⊥ := h.trans low
  change max (c i : EReal) (y i) = y i
  rw [e]
  exact max_eq_right bot_le

/-- Minus infinity at every pixel. -/
def floor : FVec Ideal S8x512x512 .f32 := broadcastInDim S8x512x512 ![] bcast_S_S8x512x512 (constant S_ .f32 0xFF800000#32)

theorem floor_apply (b : Fin 8) (h w : Fin 512) : floor (ix3 b h w) = Ideal.ofBits .f32 0xFF800000#32 := by
  pointwise [floor]

theorem top_apply (x : FVec Ideal S8x21x512x512 .f32) (b : Fin 8) (h w : Fin 512) :
    top x (ix3 b h w) = peak fun k => x (ix4 b k h w) :=
  (max_low floor _ _ (floor_apply b h w)).trans (reduce_top x b h w)

theorem exp_apply (x : FVec Ideal S8x21x512x512 .f32) (b : Fin 8) (k : Fin 21) (h w : Fin 512) :
    Host.exp (subf x (spread (top x))) (ix4 b k h w)
      = Ideal.exp ((x (ix4 b k h w) : EReal) - peak fun k => x (ix4 b k h w)) := by
  have e := (spread_apply (top x) b k h w).trans (top_apply x b h w)
  generalize spread (top x) = y at e
  rw [← e]
  pointwise

theorem softmax_apply (x : FVec Ideal S8x21x512x512 .f32) (b : Fin 8) (k : Fin 21) (h w : Fin 512) :
    softmax x (ix4 b k h w) = share (fun k => x (ix4 b k h w)) k := by
  rw [softmax_eq]
  have hk := exp_apply x b
  generalize Host.exp (subf x (spread (top x))) = y at hk
  have e := (spread_apply (total y) b k h w).trans (total_apply y b h w)
  generalize spread (total y) = z at e
  unfold share
  rw [← hk]
  rw [Finset.sum_congr rfl fun d _ => (hk d h w).symm, ← e]
  pointwise

/-! ## The index words -/

/-- An index that is not negative is left as it is. -/
theorem wrapped (v n : BitVec 32) (h : 0 ≤ v.toInt) : Scalar.select (IntOp.cmpi .slt v 0#32) (IntOp.addi v n) v = v := by
  refine Routing.wrap_of_lt v _ ?_
  have := BitVec.toInt_eq_toNat_cond v
  have := v.isLt
  split at * <;> omega

theorem words_batch (e : IVec S8x512x512 32) (b : Fin 8) (n : Fin 262144) : words e (ix3 b n 0) = BitVec.ofNat 32 b.val := by
  pointwise [words]
  exact wrapped _ _ (by rw [toInt_count _ (by omega)]; omega)

theorem words_label (e : IVec S8x512x512 32) (he : ∀ i, 0 ≤ (e i).toInt) (b : Fin 8) (n : Fin 262144) :
    words e (ix3 b n 1) = label e b n := by
  unfold label
  pointwise [words]
  exact wrapped _ _ (he _)

/-! ## The two scatters are the table -/

/-- A pixel lands in segment `l` of batch `b` when it is a pixel of the batch with the label. -/
theorem lands_iff (e : IVec S8x512x512 32) (he : ∀ i, 0 ≤ (e i).toInt) (b' b : Fin 8) (n : Fin 262144) (l : Fin 256) :
    ((words e (ix3 b' n 0)).toInt = b.val ∧ (words e (ix3 b' n 1)).toInt = l.val)
      ↔ b' = b ∧ label e b n = BitVec.ofNat 32 l.val := by
  rw [words_batch, words_label e he, toInt_count _ (by omega)]
  constructor
  · rintro ⟨h0, h1⟩
    obtain rfl : b' = b := Fin.ext (by omega)
    refine ⟨rfl, BitVec.eq_of_toInt_eq ?_⟩
    rw [h1, toInt_count _ (by omega)]
  · rintro ⟨rfl, h1⟩
    exact ⟨rfl, by rw [h1, toInt_count _ (by omega)]⟩

/-- A sum over all pixels of all batches that only counts those landing in a segment. -/
theorem landed (e : IVec S8x512x512 32) (he : ∀ i, 0 ≤ (e i).toInt) (b : Fin 8) (l : Fin 256) (f : Fin 8 → Fin 262144 → EReal) :
    (∑ b' : Fin 8, ∑ n : Fin 262144,
        if (words e (ix3 b' n 0)).toInt = b.val ∧ (words e (ix3 b' n 1)).toInt = l.val then f b' n else 0)
      = ∑ n : Fin 262144, if label e b n = BitVec.ofNat 32 l.val then f b n else 0 := by
  refine (Finset.sum_eq_single b (fun b' _ hb => Finset.sum_eq_zero fun n _ =>
    if_neg fun h => hb ((lands_iff e he b' b n l).mp h).1) fun h => absurd (Finset.mem_univ b) h).trans ?_
  exact Finset.sum_congr rfl fun n _ => if_congr ((lands_iff e he b b n l).trans (and_iff_right rfl)) rfl rfl

/-- Zeros at every segment. -/
def zeros : IVec S8x256 32 := broadcastInDim S8x256 ![] bcast_S_S8x256 (constantI S_ 32 0#32)

/-- A one at every pixel. -/
def ones : IVec S8x262144 32 := broadcastInDim S8x262144 ![] bcast_S_S8x262144 (constantI S_ 32 1#32)

/-- A zero at every class and segment. -/
def blank : FVec Ideal S8x21x256 .f32 := broadcastInDim S8x21x256 ![] bcast_S_S8x21x256 (constant S_ .f32 0x00000000#32)

/-- The softmax, pixel by pixel. -/
def updates (x : FVec Ideal S8x21x512x512 .f32) : FVec Ideal S8x262144x21 .f32 :=
  transpose S8x262144x21 [0, 2, 1] (shapeCast S8x21x262144 (softmax x) shapeCasts_S8x21x512x512_S8x21x262144)
    transposes_S8x21x262144_S8x262144x21_0_2_1

theorem zeros_apply (i : S8x256.Idx) : zeros i = 0#32 := by
  idx_vars i
  pointwise [zeros]

theorem ones_apply (i : S8x262144.Idx) : ones i = 1#32 := by
  idx_vars i
  pointwise [ones]

theorem blank_apply (i : S8x21x256.Idx) : blank i = (0 : EReal) := by
  idx_vars i
  pointwise [blank]

theorem reshaped (y : FVec Ideal S8x21x512x512 .f32) (b : Fin 8) (n : Fin 262144) (k : Fin 21) :
    transpose S8x262144x21 [0, 2, 1] (shapeCast S8x21x262144 y shapeCasts_S8x21x512x512_S8x21x262144)
      transposes_S8x21x262144_S8x262144x21_0_2_1 (ix3 b n k)
      = y (ix4 b k ⟨n.val / 512, by omega⟩ ⟨n.val % 512, by omega⟩) := by
  pointwise

theorem updates_apply (x : FVec Ideal S8x21x512x512 .f32) (b : Fin 8) (n : Fin 262144) (k : Fin 21) :
    updates x (ix3 b n k) = share (pixel x b n) k :=
  (reshaped (softmax x) b n k).trans (softmax_apply x b k _ _)

theorem counts_eq (e : IVec S8x512x512 32) (b : Fin 8) (l : Fin 256) :
    counts e (ix2 b l) = FloatOps.sitofp (F := Ideal) .f32
      (Host.scatter (countDims scatter_S8x256_S8x262144x2_S8x262144_n_01_01_2.wf) IntOp.addi zeros (words e) ones (ix2 b l)) := rfl

theorem sums_eq (x : FVec Ideal S8x21x512x512 .f32) (e : IVec S8x512x512 32) :
    sums x e = Host.scatterAdd (F := Ideal) (sumDims scatter_S8x21x256_S8x262144x2_S8x262144x21_2_02_02_2.wf)
      blank (words e) (updates x) := rfl

theorem counts_apply (x : FVec Ideal S8x21x512x512 .f32) (e : IVec S8x512x512 32) (he : ∀ i, 0 ≤ (e i).toInt)
    (b : Fin 8) (l : Fin 256) : counts e (ix2 b l) = table x e b 21 l := by
  refine (counts_eq e b l).trans ((count_apply _ (words e) zeros ones zeros_apply ones_apply b l).trans ?_)
  exact landed e he b l fun _ _ => 1

theorem sums_apply (x : FVec Ideal S8x21x512x512 .f32) (e : IVec S8x512x512 32) (he : ∀ i, 0 ≤ (e i).toInt)
    (b : Fin 8) (k : Fin 21) (l : Fin 256) : sums x e (ix3 b k l) = table x e b ⟨k.val, by omega⟩ l := by
  rw [sums_eq]
  refine (sum_apply _ (words e) blank (updates x) blank_apply b k l).trans
    ((landed e he b l fun b' n => updates x (ix3 b' n k)).trans ?_)
  unfold table entry
  refine Finset.sum_congr rfl fun n _ => ?_
  rw [updates_apply, dif_pos k.isLt]

/-! ## The loss -/

theorem tail_apply (n : FVec Ideal S8x256 .f32) (s : FVec Ideal S8x21x256 .f32) (a : FVec Ideal S8x252x252 .f32) (T : Fin 8 → Fin 22 → Fin 256 → EReal)
   (hn : ∀ b l, n (ix2 b l) = T b 21 l) (hs : ∀ b (k : Fin 21) l, s (ix3 b k l) = T b ⟨k.val, by omega⟩ l) (i : S_.Idx) :
    tail n s a i = Ideal.div (∑ b : Fin 8, batchLoss (T b) fun i j => a (ix3 b j i)) rows := by
  unfold batchLoss gram unit mean Loss.count eps rows
  pointwise [tail]
  simp only [hn, hs]
  refine congrArg (Ideal.div · _) (Finset.sum_congr (M := EReal) rfl fun b _ => Finset.sum_congr (M := EReal) rfl fun i _ =>
    congrArg (Ideal.div · _) (Finset.sum_congr (M := EReal) rfl fun j _ => congrArg (· * (a (ix3 b j i) : EReal)) ?_))
  exact Finset.sum_congr (M := EReal) rfl fun k _ => mul_comm _ _

/-- The stages give the loss at the transposed adjacency matrices. -/
theorem stages_loss (x : FVec Ideal S8x21x512x512 .f32) (e : IVec S8x512x512 32) (a : FVec Ideal S8x252x252 .f32)
    (he : ∀ i, 0 ≤ (e i).toInt) :
    tail (counts e) (sums x e) a = fun _ => loss x e fun i => a (ix3 (i 0) (i 2) (i 1)) :=
  funext fun i => tail_apply (counts e) (sums x e) a (table x e) (counts_apply x e he) (sums_apply x e he) i

end Cert.ReferenceIdeal.Val

end
-- ==== Proof.Value.Transposed.lean ====
/- The reference at the transposed adjacency matrices is the reference's stages at them, and computes the loss of the
   matrices as they are. -/
module

public import proofs.«01_k».proof.Proof.Gen.TransposedIdeal.Run
public import proofs.«01_k».proof.Proof.Value.Reference

@[expose] public section

set_option maxRecDepth 16384

noncomputable section

namespace Cert.TransposedIdeal.Val

open Idealize.ShloMosaic Idealize.ShloMosaic.TcCoe Idealize.SL.Sem
open Cert.TransposedIdeal Cert.TransposedIdeal.Gen Cert.Loss

/-- The adjacency matrices, transposed. -/
def flipped (a : FVec Ideal S8x252x252 .f32) : FVec Ideal S8x252x252 .f32 :=
  transpose S8x252x252 [0, 2, 1] a transposes_S8x252x252_S8x252x252_0_2_1

theorem flipped_apply (a : FVec Ideal S8x252x252 .f32) (b : Fin 8) (i j : Fin 252) :
    flipped a (ix3 b i j) = a (ix3 b j i) := by
  pointwise [flipped]

/-- The generated result term is the reference's stages at the transposed matrices. -/
theorem result_stages (m : (ℓ : Loc nD τ sig) → Buf (Elt Ideal) ℓ) (c : Dev nD) :
    Value.res_main_v76 m c = Cert.ReferenceIdeal.Val.tail (Cert.ReferenceIdeal.Val.counts (m ((c : Thread nD τ).loc main_arg1)))
      (Cert.ReferenceIdeal.Val.sums (m ((c : Thread nD τ).loc main_arg0)) (m ((c : Thread nD τ).loc main_arg1)))
      (flipped (m ((c : Thread nD τ).loc main_arg2))) := by
  unfold Value.res_main_v76 Cert.ReferenceIdeal.Val.tail Cert.ReferenceIdeal.Val.counts Cert.ReferenceIdeal.Val.sums
    Cert.ReferenceIdeal.Val.words Cert.ReferenceIdeal.Val.softmax flipped
  rfl

theorem result (m : (ℓ : Loc nD τ sig) → Buf (Elt Ideal) ℓ) (c : Dev nD)
    (he : ∀ i, 0 ≤ ((m ((c : Thread nD τ).loc main_arg1) : IVec S8x512x512 32) i).toInt) :
    Value.res_main_v76 m c = fun _ => loss (m ((c : Thread nD τ).loc main_arg0)) (m ((c : Thread nD τ).loc main_arg1))
      (m ((c : Thread nD τ).loc main_arg2)) := by
  refine (result_stages m c).trans ((Cert.ReferenceIdeal.Val.stages_loss _ _ _ he).trans ?_)
  refine funext fun _ => congrArg (loss _ _) (funext fun i => (flipped_apply _ _ _ _).trans (congrArg _ (eq_ix3 i).symm))

end Cert.TransposedIdeal.Val

end
-- ==== Proof.Value.Pre.lean ====
/- What the preconditions say of the argument arrays, and what suffices for the two postconditions. -/
module

public import proofs.«01_k».proof.Proof.Gen.Pre_labels_symmetric
public import proofs.«01_k».proof.Proof.Gen.Pre_labels_known
public import proofs.«01_k».proof.Proof.Gen.Pre_row_of_ones
public import proofs.«01_k».proof.Proof.Gen.Post_small_loss
public import proofs.«01_k».proof.Proof.Gen.Post_large_loss
public import proofs.«01_k».proof.Proof.Value.Spec
public import Idealize.ShloMosaic.Lib.WordCmp

@[expose] public section

noncomputable section

namespace Cert.Loss

open Idealize.ShloMosaic Idealize.ShloMosaic.WordCmp

/-- A word that compares at least zero is not negative. -/
theorem not_negative (v : BitVec 32) (h : IntOp.cmpi .sge v 0#32 = 1#1) : 0 ≤ v.toInt := by
  rw [cmpi_sge_eq, ofBool_decide_eq_one_iff] at h
  simpa using h

theorem known_labels (x : SX.Idx → EReal) (e : SE.Idx → BitVec 32) (a : SA.Idx → EReal)
    (h : Cert.Pre_labels_known.fn (F := Ideal) x e a = fun _ => 1#1) (i : SE.Idx) : 0 ≤ (e i).toInt :=
  not_negative _ (congrFun h i)

theorem symmetric_labels (x : SX.Idx → EReal) (e : SE.Idx → BitVec 32) (a : SA.Idx → EReal)
    (h : (Cert.Pre_labels_symmetric.fn (F := Ideal) x e a).1 = fun _ => 1#1) (i : SE.Idx) : 0 ≤ (e i).toInt :=
  not_negative _ (congrFun h i)

theorem symmetric_adj (x : SX.Idx → EReal) (e : SE.Idx → BitVec 32) (a : SA.Idx → EReal)
    (h : (Cert.Pre_labels_symmetric.fn (F := Ideal) x e a).2 = fun _ => 1#1) (b : Fin 8) (i j : Fin 252) :
    a (ix3 b i j) = a (ix3 b j i) := by
  have hij := congrFun h (ix3 b i j)
  dsimp only [Cert.Pre_labels_symmetric.fn] at hij
  have ht : transpose Cert.Pre_labels_symmetric.S8x252x252 [0, 2, 1] a
      Cert.Pre_labels_symmetric.Facts.transposes_S8x252x252_S8x252x252_0_2_1 (ix3 b i j) = a (ix3 b j i) := by
    pointwise
  have hc : BitVec.ofBool (decide ((a (ix3 b i j) : EReal) = transpose Cert.Pre_labels_symmetric.S8x252x252 [0, 2, 1] a
      Cert.Pre_labels_symmetric.Facts.transposes_S8x252x252_S8x252x252_0_2_1 (ix3 b i j))) = 1#1 := hij
  exact ((ofBool_decide_eq_one_iff _).mp hc).trans ht

/-! ## The input at which rows and columns differ -/

/-- Two numbers that compare equal are equal. -/
theorem equal_of_cmp (u v : EReal) (h : FloatOps.cmpf (F := Ideal) (φ := .f32) .oeq u v = 1#1) : u = v := by
  have hc : BitVec.ofBool (decide (u = v)) = 1#1 := h
  exact (ofBool_decide_eq_one_iff _).mp hc

theorem row_scores (x : SX.Idx → EReal) (e : SE.Idx → BitVec 32) (a : SA.Idx → EReal)
    (h : (Cert.Pre_row_of_ones.fn (F := Ideal) x e a).1 = fun _ => 1#1) (i : SX.Idx) : x i = 0 :=
  (equal_of_cmp _ _ (congrFun h i)).trans (Ideal.ofBits_zero .f32)

theorem row_labels (x : SX.Idx → EReal) (e : SE.Idx → BitVec 32) (a : SA.Idx → EReal)
    (h : (Cert.Pre_row_of_ones.fn (F := Ideal) x e a).2.1 = fun _ => 1#1) (i : SE.Idx) : e i = 0#32 := by
  have hi : IntOp.cmpi .eq (e i) 0#32 = 1#1 := congrFun h i
  rw [cmpi_eq_eq, ofBool_decide_eq_one_iff] at hi
  exact hi

/-- Ones in the first row and zeros below. -/
def firstRow : SA.Idx → EReal :=
  select (cmpi .eq (iotaInDim SA 32 1) (broadcastInDim SA ![] Cert.Pre_row_of_ones.Facts.bcast_S_S8x252x252
      (constantI Cert.Pre_row_of_ones.S_ 32 0#32)))
    (broadcastInDim SA ![] Cert.Pre_row_of_ones.Facts.bcast_S_S8x252x252 (constant (F := Ideal) Cert.Pre_row_of_ones.S_ .f32 0x3F800000#32))
    (broadcastInDim SA ![] Cert.Pre_row_of_ones.Facts.bcast_S_S8x252x252 (constant (F := Ideal) Cert.Pre_row_of_ones.S_ .f32 0x00000000#32))

theorem firstRow_apply (b : Fin 8) (i j : Fin 252) : firstRow (ix3 b i j) = if i = 0 then 1 else 0 := by
  unfold firstRow
  pointwise
  by_cases h : i = 0
  · subst h
    rfl
  · have hv : IntOp.cmpi .eq (BitVec.ofNat 32 i.val) 0#32 = 0#1 := by
      rw [cmpi_eq_eq, decide_eq_false]
      · rfl
      · intro hw
        have ht := congrArg BitVec.toNat hw
        simp only [BitVec.toNat_ofNat] at ht
        have hi := i.isLt
        exact h (Fin.ext (show i.val = 0 by omega))
    rw [hv, if_neg h]
    rfl

theorem row_adj (x : SX.Idx → EReal) (e : SE.Idx → BitVec 32) (a : SA.Idx → EReal)
    (h : (Cert.Pre_row_of_ones.fn (F := Ideal) x e a).2.2 = fun _ => 1#1) (b : Fin 8) (i j : Fin 252) :
    a (ix3 b i j) = if i = 0 then 1 else 0 := by
  have hc : FloatOps.cmpf (F := Ideal) (φ := .f32) .oeq (a (ix3 b i j)) (firstRow (ix3 b i j)) = 1#1 := congrFun h (ix3 b i j)
  exact (equal_of_cmp _ _ hc).trans (firstRow_apply b i j)

theorem small_of_lt (x : SX.Idx → EReal) (e : SE.Idx → BitVec 32) (a : SA.Idx → EReal) (v : EReal)
    (h : v < Ideal.ofBits .f32 0x39800000#32) : Cert.Post_small_loss.fn (F := Ideal) x e a (fun _ => v) = fun _ => 1#1 :=
  funext fun _ => (ofBool_decide_eq_one_iff _).mpr h

theorem large_of_lt (x : SX.Idx → EReal) (e : SE.Idx → BitVec 32) (a : SA.Idx → EReal) (v : EReal)
    (h : Ideal.ofBits .f32 0x3A800000#32 < v) : Cert.Post_large_loss.fn (F := Ideal) x e a (fun _ => v) = fun _ => 1#1 :=
  funext fun _ => (ofBool_decide_eq_one_iff _).mpr h

end Cert.Loss

end
-- ==== Proof.Value.Point.lean ====
/- The loss at one input, at which summing over rows and over columns differ: every score and every label is 0, and each
   adjacency matrix has a single row, or a single column, of ones. -/
module

public import proofs.«01_k».proof.Proof.Value.Spec

@[expose] public section

noncomputable section

namespace Cert.Loss

open Idealize.ShloMosaic

/-! ## Numbers -/

/-- A quotient of two numbers is their real quotient. -/
theorem div_real (a b : ℝ) (h : b ≠ 0) : Ideal.div (a : EReal) (b : EReal) = ((a / b : ℝ) : EReal) := by
  rw [Ideal.div_coe h, ← EReal.coe_mul]
  congr 1
  ring

theorem zero_div_real (b : ℝ) (h : b ≠ 0) : Ideal.div (0 : EReal) (b : EReal) = 0 := by
  have := div_real 0 b h
  rwa [zero_div] at this

/-- A sum in which only one term counts. -/
theorem sum_only {n : ℕ} [NeZero n] (f : Fin n → EReal) (h : ∀ i, i ≠ 0 → f i = 0) : ∑ i, f i = f 0 :=
  Finset.sum_eq_single 0 (fun i _ hi => h i hi) fun h => absurd (Finset.mem_univ _) h

/-- A sum of equal numbers. -/
theorem sum_same (n : ℕ) (r : ℝ) : ∑ _i : Fin n, (r : EReal) = ((n * r : ℝ) : EReal) := by
  rw [Finset.sum_const, Finset.card_univ, Fintype.card_fin, ← EReal.coe_nsmul, nsmul_eq_mul]

/-- The small constant is a small positive number. -/
theorem eps_real : ∃ ε : ℝ, 0 < ε ∧ ε < 1 / 1000 ∧ eps = (ε : EReal) := by
  refine ⟨_, ?_, ?_, by unfold eps; simp only [Ideal.ofBits, Ideal.ieee]; simp [-EReal.coe_mul]; rfl⟩
  · norm_num
  · norm_num

/-! ## The table -/

theorem peak_zero : peak (fun _ => 0) = 0 := by
  unfold peak
  rw [low]
  refine le_antisymm ((Finset.fold_max_le _).mpr ⟨bot_le, fun _ _ => le_rfl⟩) ?_
  exact (Finset.le_fold_max _).mpr (Or.inr ⟨0, Finset.mem_univ _, le_rfl⟩)

theorem share_zero (k : Fin 21) : share (fun _ => 0) k = ((1 / 21 : ℝ) : EReal) := by
  have e : Ideal.exp ((0 : EReal) - 0) = ((1 : ℝ) : EReal) := by
    rw [sub_zero, ← EReal.coe_zero, Ideal.exp_coe, Real.exp_zero]
  unfold share
  rw [peak_zero]
  change Ideal.div (Ideal.exp ((0 : EReal) - 0)) (∑ _d : Fin 21, Ideal.exp ((0 : EReal) - 0)) = _
  rw [e, sum_same, div_real _ _ (by norm_num)]
  norm_num

/-- All pixels are in segment 0. -/
def single (r : Fin 22) (l : Fin 256) : EReal :=
  if l = 0 then if r.val < 21 then ((262144 / 21 : ℝ) : EReal) else ((262144 : ℝ) : EReal) else 0

theorem table_single (x : SX.Idx → EReal) (e : SE.Idx → BitVec 32) (hx : ∀ i, x i = 0) (he : ∀ i, e i = 0#32) (b : Fin 8) :
    table x e b = single := by
  funext r l
  have hlab : ∀ n, label e b n = 0#32 := fun n => he _
  have hpix : ∀ n, pixel x b n = fun _ => 0 := fun n => funext fun k => hx _
  have hent : ∀ n, entry x b r n = if r.val < 21 then ((1 / 21 : ℝ) : EReal) else ((1 : ℝ) : EReal) := by
    intro n
    unfold entry
    by_cases h : r.val < 21
    · rw [dif_pos h, if_pos h, hpix, share_zero]
    · rw [dif_neg h, if_neg h, EReal.coe_one]
  unfold table single
  simp only [hlab, hent]
  by_cases hl : l = 0
  · subst hl
    rw [if_pos rfl]
    by_cases h : r.val < 21
    · simp only [if_pos h]
      refine (Finset.sum_congr rfl fun n _ => if_pos rfl).trans ((sum_same _ _).trans ?_)
      norm_num
    · simp only [if_neg h]
      refine (Finset.sum_congr rfl fun n _ => if_pos rfl).trans ((sum_same _ _).trans ?_)
      norm_num
  · rw [if_neg hl]
    refine Finset.sum_eq_zero fun n _ => if_neg fun h => hl (Fin.ext ?_)
    have hl' : (BitVec.ofNat 32 l.val).toNat = l.val := by
      rw [BitVec.toNat_ofNat]
      exact Nat.mod_eq_of_lt (by omega)
    exact hl'.symm.trans (congrArg BitVec.toNat h).symm

/-! ## The products of the means -/

theorem mean_single (k : Fin 21) (i : Fin 252) : mean single k i = if i = 0 then ((1 / 21 : ℝ) : EReal) else 0 := by
  unfold mean count single
  by_cases h : i = 0
  · subst h
    have h21 : ¬ ((21 : Fin 22).val < 21) := by decide
    have hpos : (0 : EReal) < ((262144 : ℝ) : EReal) := by exact_mod_cast (by norm_num : (0 : ℝ) < 262144)
    have h0 : (⟨(0 : Fin 252).val, by omega⟩ : Fin 256) = 0 := rfl
    simp only [h0, if_true, if_neg h21, if_pos k.isLt, if_pos hpos]
    rw [div_real _ _ (by norm_num)]
    norm_num
  · have h0 : ¬ (⟨i.val, by omega⟩ : Fin 256) = 0 := fun e => by
      have e' := Fin.ext_iff.mp e
      exact h (Fin.ext e')
    simp only [if_neg h0, if_neg h, lt_irrefl, if_false]

/-- The two numbers that the loss comes down to, at a small constant `ε`. -/
def weight (ε : ℝ) : ℝ := 21 * ((1 / 21) / (√(21 * (1 / 21 * (1 / 21))) + ε) * ((1 / 21) / (√(21 * (1 / 21 * (1 / 21))) + ε)))

theorem unit_single (ε : ℝ) (h : eps = (ε : EReal)) (h0 : 0 < ε) (k : Fin 21) (i : Fin 252) :
    unit single k i = if i = 0 then (((1 / 21) / (√(21 * (1 / 21 * (1 / 21))) + ε) : ℝ) : EReal) else 0 := by
  unfold unit
  simp only [mean_single]
  by_cases hi : i = 0
  · simp only [if_pos hi]
    rw [← EReal.coe_mul, sum_same, Ideal.sqrt_coe, if_neg (by norm_num), h, ← EReal.coe_add]
    rw [div_real _ _ (by positivity)]
    norm_num
  · simp only [if_neg hi, mul_zero, Finset.sum_const_zero]
    rw [← EReal.coe_zero, Ideal.sqrt_coe, if_neg (by norm_num), h, ← EReal.coe_add, div_real _ _ (by rw [Real.sqrt_zero]; linarith),
      zero_div]

theorem gram_single (ε : ℝ) (h : eps = (ε : EReal)) (h0 : 0 < ε) (i j : Fin 252) :
    gram single i j = if i = 0 ∧ j = 0 then ((weight ε : ℝ) : EReal) else 0 := by
  unfold gram
  simp only [unit_single ε h h0]
  by_cases hi : i = 0
  · by_cases hj : j = 0
    · simp only [if_pos hi, if_pos hj, and_self, hi, hj, if_true]
      rw [← EReal.coe_mul, sum_same]
      unfold weight
      norm_num
    · simp only [if_neg hj, mul_zero, Finset.sum_const_zero, hj, and_false, if_false]
  · simp only [if_neg hi, zero_mul, Finset.sum_const_zero, hi, false_and, if_false]

theorem root_pos : 0 < √(21 * (1 / 21 * (1 / 21)) : ℝ) := Real.sqrt_pos.mpr (by norm_num)

theorem root_sq : √(21 * (1 / 21 * (1 / 21)) : ℝ) * √(21 * (1 / 21 * (1 / 21)) : ℝ) = 1 / 21 := by
  rw [Real.mul_self_sqrt (by norm_num)]
  norm_num

theorem weight_le (ε : ℝ) (h0 : 0 < ε) : weight ε ≤ 1 := by
  have hp := root_pos
  have hs := root_sq
  unfold weight
  set r := √(21 * (1 / 21 * (1 / 21)) : ℝ) with hr
  have hd : 0 < r + ε := by linarith
  rw [div_mul_div_comm, ← mul_div_assoc, div_le_one (by positivity)]
  nlinarith

theorem le_weight (ε : ℝ) (h0 : 0 < ε) (h1 : ε < 1 / 1000) : 1 / 2 ≤ weight ε := by
  have hp := root_pos
  have hs := root_sq
  unfold weight
  set r := √(21 * (1 / 21 * (1 / 21)) : ℝ) with hr
  have hd : 0 < r + ε := by linarith
  have hr1 : r < 1 := by nlinarith
  rw [div_mul_div_comm, ← mul_div_assoc, le_div_iff₀ (by positivity)]
  nlinarith

/-! ## The loss -/

/-- Ones in the first row. -/
theorem batch_row (ε : ℝ) (h : eps = (ε : EReal)) (h0 : 0 < ε) :
    batchLoss single (fun i _ => if i = 0 then 1 else 0) = ((weight ε / (252 + ε) : ℝ) : EReal) := by
  unfold batchLoss
  simp only [gram_single ε h h0]
  rw [sum_only _ fun i hi => ?_]
  · rw [sum_only _ fun j hj => by rw [if_neg (fun q => hj q.2), zero_mul]]
    have e : (∑ _j : Fin 252, if (0 : Fin 252) = 0 then (1 : EReal) else 0) = ((252 : ℝ) : EReal) := by
      rw [if_pos rfl, ← EReal.coe_one, sum_same]
      norm_num
    rw [e, if_pos ⟨rfl, rfl⟩, if_pos rfl, mul_one, h, ← EReal.coe_add, div_real _ _ (by positivity)]
  · simp only [if_neg hi, mul_zero, Finset.sum_const_zero, zero_add]
    rw [h, zero_div_real _ h0.ne']

/-- Ones in the first column. -/
theorem batch_column (ε : ℝ) (h : eps = (ε : EReal)) (h0 : 0 < ε) :
    batchLoss single (fun _ j => if j = 0 then 1 else 0) = ((weight ε / (1 + ε) : ℝ) : EReal) := by
  unfold batchLoss
  simp only [gram_single ε h h0]
  have e : (∑ j : Fin 252, if j = 0 then (1 : EReal) else 0) = ((1 : ℝ) : EReal) := by
    rw [sum_only _ fun j hj => if_neg hj, if_pos rfl, EReal.coe_one]
  simp only [e, h, ← EReal.coe_add]
  rw [sum_only _ fun i hi => ?_]
  · rw [sum_only _ fun j hj => by rw [if_neg hj, mul_zero]]
    rw [if_pos ⟨rfl, rfl⟩, if_pos rfl, mul_one, div_real _ _ (by positivity)]
  · have e0 : (∑ j : Fin 252, (if i = 0 ∧ j = 0 then ((weight ε : ℝ) : EReal) else 0) * if j = 0 then (1 : EReal) else 0) = 0 :=
      Finset.sum_eq_zero fun j _ => by rw [if_neg (fun q => hi q.1), zero_mul]
    rw [e0, zero_div_real _ (by positivity)]

theorem mean_of_same (r : ℝ) : Ideal.div (∑ _b : Fin 8, (r : EReal)) rows = ((8 * r / 2016 : ℝ) : EReal) := by
  rw [sum_same, rows_eq, div_real _ _ (by norm_num)]
  norm_num

/-- With ones in the first row the loss is small. -/
theorem loss_row (x : SX.Idx → EReal) (e : SE.Idx → BitVec 32) (a : SA.Idx → EReal) (hx : ∀ i, x i = 0) (he : ∀ i, e i = 0#32)
    (ha : ∀ b i j, a (ix3 b i j) = if i = 0 then 1 else 0) : loss x e a < Ideal.ofBits .f32 0x39800000#32 := by
  obtain ⟨ε, h0, h1, h⟩ := eps_real
  have hw := weight_le ε h0
  unfold loss
  simp only [table_single x e hx he, ha, batch_row ε h h0]
  rw [mean_of_same]
  have hb : Ideal.ofBits .f32 0x39800000#32 = ((1 / 4096 : ℝ) : EReal) := by
    simp [Ideal.ofBits, Ideal.ieee, -EReal.coe_mul]; norm_num
  rw [hb, EReal.coe_lt_coe_iff]
  have : weight ε / (252 + ε) < 1 / 252 := by
    rw [div_lt_div_iff₀ (by positivity) (by norm_num)]
    nlinarith
  nlinarith

/-- With ones in the first column it is large. -/
theorem loss_column (x : SX.Idx → EReal) (e : SE.Idx → BitVec 32) (a : SA.Idx → EReal) (hx : ∀ i, x i = 0) (he : ∀ i, e i = 0#32)
    (ha : ∀ b i j, a (ix3 b i j) = if j = 0 then 1 else 0) : Ideal.ofBits .f32 0x3A800000#32 < loss x e a := by
  obtain ⟨ε, h0, h1, h⟩ := eps_real
  have hw := le_weight ε h0 h1
  unfold loss
  simp only [table_single x e hx he, ha, batch_column ε h h0]
  rw [mean_of_same]
  have hb : Ideal.ofBits .f32 0x3A800000#32 = ((1 / 1024 : ℝ) : EReal) := by
    simp [Ideal.ofBits, Ideal.ieee, -EReal.coe_mul]; norm_num
  rw [hb, EReal.coe_lt_coe_iff]
  have : 1 / 3 < weight ε / (1 + ε) := by
    rw [lt_div_iff₀ (by positivity)]
    nlinarith
  nlinarith

end Cert.Loss

end
-- ==== Proof.lean ====
/- The certificate of the adjacency loss: the frames of the two printed kernels come from
   Proof/Printed/Run.lean and Proof/Ideal/Run.lean, the frames of the two references from their
   generated runs, and the value claims from the modules under Proof/Value/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.TransposedIdeal
public import proofs.«01_k».proof.Proof.Gen.Pre_labels_symmetric
public import proofs.«01_k».proof.Proof.Gen.Pre_labels_known
public import proofs.«01_k».proof.Proof.Gen.Pre_row_of_ones
public import proofs.«01_k».proof.Proof.Gen.Post_small_loss
public import proofs.«01_k».proof.Proof.Gen.Post_large_loss
public import proofs.«01_k».proof.Proof.Ideal.Run
public import proofs.«01_k».proof.Proof.Printed.Run
public import proofs.«01_k».proof.Proof.Gen.ReferenceIdeal.Run
public import proofs.«01_k».proof.Proof.Gen.TransposedIdeal.Run
public import proofs.«01_k».proof.Proof.Value.Kernel
public import proofs.«01_k».proof.Proof.Value.Reference
public import proofs.«01_k».proof.Proof.Value.Transposed
public import proofs.«01_k».proof.Proof.Value.Pre
public import proofs.«01_k».proof.Proof.Value.Point
public import Idealize.ShloMosaic.Adequacy
public import Idealize.ShloMosaic.Init

@[expose] public section

noncomputable section

namespace Cert.Proof

open Idealize.ShloMosaic Idealize.ShloMosaic.TcCoe Idealize.SL.Sem Cert.Loss

/-! ## The frames of the two references: neither declares a semaphore -/

theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

theorem transposed_frame : Cert.quiescent_TransposedIdeal := fun m g _ =>
  (θ_run Cert.TransposedIdeal.defs _ _).mono
    (fun r h => ⟨fun c => (h c).2, sem_eq_zero_of_no_sems (by decide) r.2⟩) (Cert.TransposedIdeal.Value.run m g)

/-! ## The two value claims -/

/-- At symmetric matrices the reference computes the loss. -/
theorem reference_result (m : (ℓ : Loc Cert.ReferenceIdeal.nD Cert.ReferenceIdeal.τ Cert.ReferenceIdeal.sig) → Buf (Elt Ideal) ℓ)
    (c : Dev Cert.ReferenceIdeal.nD) (x : SX.Idx → EReal) (e : SE.Idx → BitVec 32) (a : SA.Idx → EReal)
    (hx : m ((c : Thread Cert.ReferenceIdeal.nD Cert.ReferenceIdeal.τ).loc Cert.ReferenceIdeal.main_arg0) = x)
    (he : m ((c : Thread Cert.ReferenceIdeal.nD Cert.ReferenceIdeal.τ).loc Cert.ReferenceIdeal.main_arg1) = e)
    (ha : m ((c : Thread Cert.ReferenceIdeal.nD Cert.ReferenceIdeal.τ).loc Cert.ReferenceIdeal.main_arg2) = a)
    (h0 : ∀ i, 0 ≤ (e i).toInt) (hs : ∀ b i j, a (ix3 b i j) = a (ix3 b j i)) :
    Cert.ReferenceIdeal.Value.res_main_v75 m c = fun _ => loss x e a := by
  refine (Cert.ReferenceIdeal.Val.result_stages m c).trans ?_
  rw [hx, he, ha]
  refine (Cert.ReferenceIdeal.Val.stages_loss x e a h0).trans (funext fun _ => congrArg (loss x e) (funext fun i => ?_))
  exact (hs _ _ _).trans (congrArg a (eq_ix3 i).symm)

/-- The reference at the transposed matrices computes the loss. -/
theorem transposed_result (m : (ℓ : Loc Cert.TransposedIdeal.nD Cert.TransposedIdeal.τ Cert.TransposedIdeal.sig) → Buf (Elt Ideal) ℓ)
    (c : Dev Cert.TransposedIdeal.nD) (x : SX.Idx → EReal) (e : SE.Idx → BitVec 32) (a : SA.Idx → EReal)
    (hx : m ((c : Thread Cert.TransposedIdeal.nD Cert.TransposedIdeal.τ).loc Cert.TransposedIdeal.main_arg0) = x)
    (he : m ((c : Thread Cert.TransposedIdeal.nD Cert.TransposedIdeal.τ).loc Cert.TransposedIdeal.main_arg1) = e)
    (ha : m ((c : Thread Cert.TransposedIdeal.nD Cert.TransposedIdeal.τ).loc Cert.TransposedIdeal.main_arg2) = a)
    (h0 : ∀ i, 0 ≤ (e i).toInt) :
    Cert.TransposedIdeal.Value.res_main_v76 m c = fun _ => loss x e a := by
  refine (Cert.TransposedIdeal.Val.result m c (by rw [he]; exact h0)).trans ?_
  rw [hx, he, ha]

theorem value_symmetric : Cert.algebraic_KernelIdeal_ReferenceIdeal_pre_labels_symmetric := fun m g m' g' hp hagree =>
  ⟨_, Cert.KernelIdeal.Val.run_loss m g, (θ_run Cert.ReferenceIdeal.defs _ _).mono
    (fun _ h c => ⟨(h c).1.trans (reference_result m' c _ _ _ (hagree c).1 (hagree c).2.1 (hagree c).2.2
      (symmetric_labels _ _ _ (hp c).1) (symmetric_adj _ _ _ (hp c).2)), (h c).2⟩)
    (Cert.ReferenceIdeal.Value.run m' g')⟩

theorem value_transposed : Cert.algebraic_KernelIdeal_TransposedIdeal_pre_labels_known := fun m g m' g' hp hagree =>
  ⟨_, Cert.KernelIdeal.Val.run_loss m g, (θ_run Cert.TransposedIdeal.defs _ _).mono
    (fun _ h c => ⟨(h c).1.trans (transposed_result m' c _ _ _ (hagree c).1 (hagree c).2.1 (hagree c).2.2
      (known_labels _ _ _ (hp c))), (h c).2⟩)
    (Cert.TransposedIdeal.Value.run m' g')⟩

/-! ## The kernel and the reference differ: their losses where each matrix has ones in its first row -/

theorem kernel_small : Cert.holds_KernelIdeal_small_loss_pre_row_of_ones := fun m g hp =>
  (θ_run Cert.KernelIdeal.defs _ _).mono
    (fun _ h c => ⟨(h c).2.1, (h c).2.2.1, (h c).2.2.2,
      (congrArg (Cert.Post_small_loss.fn (F := Ideal) _ _ _) (h c).1).trans
        (small_of_lt _ _ _ _ (loss_row _ _ _ (row_scores _ _ _ (hp c).1) (row_labels _ _ _ (hp c).2.1)
          (row_adj _ _ _ (hp c).2.2)))⟩)
    (Cert.KernelIdeal.Val.run_loss m g)

/-- Where each matrix has ones in its first row, the reference takes the loss of a first column of ones. -/
theorem reference_loss_large (m : (ℓ : Loc Cert.ReferenceIdeal.nD Cert.ReferenceIdeal.τ Cert.ReferenceIdeal.sig) → Buf (Elt Ideal) ℓ)
    (c : Dev Cert.ReferenceIdeal.nD) (x : SX.Idx → EReal) (e : SE.Idx → BitVec 32) (a : SA.Idx → EReal)
    (hx : m ((c : Thread Cert.ReferenceIdeal.nD Cert.ReferenceIdeal.τ).loc Cert.ReferenceIdeal.main_arg0) = x)
    (he : m ((c : Thread Cert.ReferenceIdeal.nD Cert.ReferenceIdeal.τ).loc Cert.ReferenceIdeal.main_arg1) = e)
    (ha : m ((c : Thread Cert.ReferenceIdeal.nD Cert.ReferenceIdeal.τ).loc Cert.ReferenceIdeal.main_arg2) = a)
    (hx0 : ∀ i, x i = 0) (he0 : ∀ i, e i = 0#32) (ha0 : ∀ b i j, a (ix3 b i j) = if i = 0 then 1 else 0) :
    Cert.Post_large_loss.fn (F := Ideal) x e a (Cert.ReferenceIdeal.Value.res_main_v75 m c) = fun _ => 1#1 := by
  have h : Cert.ReferenceIdeal.Value.res_main_v75 m c = fun _ => loss x e fun i => a (ix3 (i 0) (i 2) (i 1)) := by
    refine (Cert.ReferenceIdeal.Val.result_stages m c).trans ?_
    rw [hx, he, ha]
    exact Cert.ReferenceIdeal.Val.stages_loss x e a fun i => by rw [he0 i]; decide
  rw [h]
  exact large_of_lt _ _ _ _ (loss_column _ _ _ hx0 he0 fun b i j => ha0 b j i)

theorem reference_large : Cert.holds_ReferenceIdeal_large_loss_pre_row_of_ones := fun m g hp =>
  (θ_run Cert.ReferenceIdeal.defs _ _).mono
    (fun _ h c => ⟨(h c).2.1, (h c).2.2.1, (h c).2.2.2,
      (congrArg (Cert.Post_large_loss.fn (F := Ideal) _ _ _) (h c).1).trans
        (reference_loss_large m c _ _ _ rfl rfl rfl (row_scores _ _ _ (hp c).1) (row_labels _ _ _ (hp c).2.1)
          (row_adj _ _ _ (hp c).2.2))⟩)
    (Cert.ReferenceIdeal.Value.run m g)

theorem claim : Cert.Claim :=
  ⟨Cert.Kernel.Gen.facts, Cert.KernelIdeal.Gen.facts, Cert.ReferenceIdeal.Gen.facts, Cert.TransposedIdeal.Gen.facts,
    Cert.Pre_labels_symmetric.Gen.facts, Cert.Pre_labels_known.Gen.facts, Cert.Pre_row_of_ones.Gen.facts,
    Cert.Post_small_loss.Gen.facts, Cert.Post_large_loss.Gen.facts,
    fun m g _ => Cert.Kernel.Acc.frame m g, fun m g _ => Cert.KernelIdeal.Acc.frame m g,
    fun m g _ => Cert.KernelIdeal.Acc.frame m g, fun m g _ => Cert.KernelIdeal.Acc.frame m g,
    fun m g _ => Cert.KernelIdeal.Acc.frame m g,
    reference_frame, fun m g _ => reference_frame m g trivial, fun m g _ => reference_frame m g trivial,
    transposed_frame, fun m g _ => transposed_frame m g trivial,
    trivial, value_symmetric, value_transposed, kernel_small, reference_large⟩

end Cert.Proof

end
